-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 4096, 4096]⟩ ⟨3, ![2, 4096, 4096]⟩ (Layout.meshBlock [2, 2, 4] ![[0], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)) →
    ∃ (v0 : Buf (Elt Ideal) (((0 : Dev Cert.ReferenceIdeal.nD).tc : Thread Cert.ReferenceIdeal.nD Cert.ReferenceIdeal.τ).loc Cert.ReferenceIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v15) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x4096x4096 : Shape := ⟨3, ![1, 4096, 4096]⟩
abbrev S4096x4096 : Shape := ⟨2, ![4096, 4096]⟩
abbrev S4096 : Shape := ⟨1, ![4096]⟩
abbrev S4x128x4096 : Shape := ⟨3, ![4, 128, 4096]⟩
abbrev S2x128x4096 : Shape := ⟨3, ![2, 128, 4096]⟩
abbrev S16x128x4096 : Shape := ⟨3, ![16, 128, 4096]⟩
abbrev S4 : Shape := ⟨1, ![4]⟩
abbrev S2 : Shape := ⟨1, ![2]⟩
abbrev S16 : Shape := ⟨1, ![16]⟩
abbrev S_ : Shape := ⟨0, ![]⟩
abbrev S1x4096 : Shape := ⟨2, ![1, 4096]⟩
abbrev S1 : Shape := ⟨1, ![1]⟩
abbrev S1x128x4096 : Shape := ⟨3, ![1, 128, 4096]⟩
abbrev S128x4096 : Shape := ⟨2, ![128, 4096]⟩
abbrev S128 : Shape := ⟨1, ![128]⟩
abbrev S128x1 : Shape := ⟨2, ![128, 1]⟩

abbrev nBuf : Space → Nat
  | .hbm => 4
  | .vmem => 7
  | .smem => 0
  | _ => 0

abbrev bufTy : (tb : Table) → Fin (tcTables nBuf tb) → BufTy
  | .hbm, ⟨0, _⟩ => ⟨S1x4096x4096, .f32⟩
  | .hbm, ⟨1, _⟩ => ⟨S4096x4096, .f32⟩
  | .hbm, ⟨2, _⟩ => ⟨S4096, .f32⟩
  | .hbm, ⟨3, _⟩ => ⟨S4096x4096, .bf16⟩
  | .local _ .vmem, ⟨0, _⟩ => ⟨S4096, .f32⟩
  | .local _ .vmem, ⟨1, _⟩ => ⟨S4x128x4096, .f32⟩
  | .local _ .vmem, ⟨2, _⟩ => ⟨S2x128x4096, .f32⟩
  | .local _ .vmem, ⟨3, _⟩ => ⟨S2x128x4096, .bf16⟩
  | .local _ .vmem, ⟨4, _⟩ => ⟨S4x128x4096, .bf16⟩
  | .local _ .vmem, ⟨5, _⟩ => ⟨S16x128x4096, .bf16⟩
  | .local _ .vmem, ⟨6, _⟩ => ⟨S16x128x4096, .bf16⟩
  | _, _ => ⟨S1x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 49 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | _ => false

abbrev sig : RefSig :=
  (ofTc nBuf bufTy 1 49 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_scratch5 : Ref sig .tc := ⟨.vmem, 6, rfl⟩
abbrev cc0_sem0_0 : DmaSem sig := 0
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_7 : BitVec 32 := 8#32
  let v15 : BitVec 32 := Scalar.muli v9 c8_i32_7
  let v16 : BitVec 32 := Scalar.addi c0_i32 v15
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_8 : BitVec 32 := 4#32
  let v17 : BitVec 32 := Scalar.muli v5 c4_i32_8
  let v18 : BitVec 32 := Scalar.addi v16 v17
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v19 : BitVec 32 := Scalar.muli v8 c1_i32_9
  let v20 : BitVec 32 := Scalar.addi v18 v19
  v20.toNat
def k0_dev2 (d0 : Dev nD) : Nat :=
  let c0_i32_12 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_11 : BitVec 32 := 8#32
  let v21 : BitVec 32 := Scalar.muli v2 c8_i32_11
  let v22 : BitVec 32 := Scalar.addi c0_i32_12 v21
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_13 : BitVec 32 := 4#32
  let v23 : BitVec 32 := Scalar.muli v10 c4_i32_13
  let v24 : BitVec 32 := Scalar.addi v22 v23
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_14 : BitVec 32 := 1#32
  let v25 : BitVec 32 := Scalar.muli v8 c1_i32_14
  let v26 : BitVec 32 := Scalar.addi v24 v25
  v26.toNat
def k0_off1 (d0 : Dev nD) (c0_i32_16 : BitVec 32) : Fin 3 → Nat :=
  let c0_i32_17 : BitVec 32 := 0#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c2048_i32 : BitVec 32 := 2048#32
  let v11 : BitVec 32 := Scalar.muli v5 c2048_i32
  let v30 : BitVec 32 := Scalar.addi v11 c0_i32_16
  let c0_i32_22 : BitVec 32 := 0#32
  ![0, v30.toNat, 0]
def k0_off2 (d0 : Dev nD) (c0_i32_40 : BitVec 32) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c2048_i32 : BitVec 32 := 2048#32
  let v11 : BitVec 32 := Scalar.muli v5 c2048_i32
  let v58 : BitVec 32 := Scalar.addi v11 c0_i32_40
  let c0_i32_45 : BitVec 32 := 0#32
  ![v58.toNat, 0]
def k0_dev3 (d0 : Dev nD) : Nat :=
  let c0_i32_64 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_63 : BitVec 32 := 8#32
  let v77 : BitVec 32 := Scalar.muli v9 c8_i32_63
  let v78 : BitVec 32 := Scalar.addi c0_i32_64 v77
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_65 : BitVec 32 := 4#32
  let v79 : BitVec 32 := Scalar.muli v5 c4_i32_65
  let v80 : BitVec 32 := Scalar.addi v78 v79
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_66 : BitVec 32 := 1#32
  let v81 : BitVec 32 := Scalar.muli v8 c1_i32_66
  let v82 : BitVec 32 := Scalar.addi v80 v81
  v82.toNat
def k0_dev4 (d0 : Dev nD) : Nat :=
  let c0_i32_88 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_87 : BitVec 32 := 8#32
  let v104 : BitVec 32 := Scalar.muli v9 c8_i32_87
  let v105 : BitVec 32 := Scalar.addi c0_i32_88 v104
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_89 : BitVec 32 := 4#32
  let v106 : BitVec 32 := Scalar.muli v5 c4_i32_89
  let v107 : BitVec 32 := Scalar.addi v105 v106
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_90 : BitVec 32 := 1#32
  let v108 : BitVec 32 := Scalar.muli v8 c1_i32_90
  let v109 : BitVec 32 := Scalar.addi v107 v108
  v109.toNat
def k0_dev5 (d0 : Dev nD) : Nat :=
  let c0_i32_112 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_111 : BitVec 32 := 8#32
  let v131 : BitVec 32 := Scalar.muli v9 c8_i32_111
  let v132 : BitVec 32 := Scalar.addi c0_i32_112 v131
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_113 : BitVec 32 := 4#32
  let v133 : BitVec 32 := Scalar.muli v5 c4_i32_113
  let v134 : BitVec 32 := Scalar.addi v132 v133
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_114 : BitVec 32 := 1#32
  let v135 : BitVec 32 := Scalar.muli v8 c1_i32_114
  let v136 : BitVec 32 := Scalar.addi v134 v135
  v136.toNat
def k0_dev6 (d0 : Dev nD) : Nat :=
  let c0_i32_136 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_135 : BitVec 32 := 8#32
  let v158 : BitVec 32 := Scalar.muli v9 c8_i32_135
  let v159 : BitVec 32 := Scalar.addi c0_i32_136 v158
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_137 : BitVec 32 := 4#32
  let v160 : BitVec 32 := Scalar.muli v5 c4_i32_137
  let v161 : BitVec 32 := Scalar.addi v159 v160
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_138 : BitVec 32 := 1#32
  let v162 : BitVec 32 := Scalar.muli v8 c1_i32_138
  let v163 : BitVec 32 := Scalar.addi v161 v162
  v163.toNat
def k0_dev7 (d0 : Dev nD) : Nat :=
  let c0_i32_198 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_197 : BitVec 32 := 8#32
  let v234 : BitVec 32 := Scalar.muli v2 c8_i32_197
  let v235 : BitVec 32 := Scalar.addi c0_i32_198 v234
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_199 : BitVec 32 := 4#32
  let v236 : BitVec 32 := Scalar.muli v10 c4_i32_199
  let v237 : BitVec 32 := Scalar.addi v235 v236
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_200 : BitVec 32 := 1#32
  let v238 : BitVec 32 := Scalar.muli v8 c1_i32_200
  let v239 : BitVec 32 := Scalar.addi v237 v238
  v239.toNat
def k0_dev8 (d0 : Dev nD) : Nat :=
  let c0_i32_232 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_231 : BitVec 32 := 8#32
  let v267 : BitVec 32 := Scalar.muli v9 c8_i32_231
  let v268 : BitVec 32 := Scalar.addi c0_i32_232 v267
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_233 : BitVec 32 := 4#32
  let v269 : BitVec 32 := Scalar.muli v5 c4_i32_233
  let v270 : BitVec 32 := Scalar.addi v268 v269
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_234 : BitVec 32 := 1#32
  let v271 : BitVec 32 := Scalar.muli v8 c1_i32_234
  let v272 : BitVec 32 := Scalar.addi v270 v271
  v272.toNat
def k0_dev9 (d0 : Dev nD) : Nat :=
  let c0_i32_295 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_294 : BitVec 32 := 8#32
  let v343 : BitVec 32 := Scalar.muli v2 c8_i32_294
  let v344 : BitVec 32 := Scalar.addi c0_i32_295 v343
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_296 : BitVec 32 := 4#32
  let v345 : BitVec 32 := Scalar.muli v10 c4_i32_296
  let v346 : BitVec 32 := Scalar.addi v344 v345
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_297 : BitVec 32 := 1#32
  let v347 : BitVec 32 := Scalar.muli v8 c1_i32_297
  let v348 : BitVec 32 := Scalar.addi v346 v347
  v348.toNat
def k0_dev10 (d0 : Dev nD) : Nat :=
  let c0_i32_328 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_327 : BitVec 32 := 8#32
  let v376 : BitVec 32 := Scalar.muli v9 c8_i32_327
  let v377 : BitVec 32 := Scalar.addi c0_i32_328 v376
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_329 : BitVec 32 := 4#32
  let v378 : BitVec 32 := Scalar.muli v5 c4_i32_329
  let v379 : BitVec 32 := Scalar.addi v377 v378
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_330 : BitVec 32 := 1#32
  let v380 : BitVec 32 := Scalar.muli v8 c1_i32_330
  let v381 : BitVec 32 := Scalar.addi v379 v380
  v381.toNat
def k0_dev11 (d0 : Dev nD) : Nat :=
  let c0_i32_406 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_405 : BitVec 32 := 8#32
  let v464 : BitVec 32 := Scalar.muli v2 c8_i32_405
  let v465 : BitVec 32 := Scalar.addi c0_i32_406 v464
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_407 : BitVec 32 := 4#32
  let v466 : BitVec 32 := Scalar.muli v10 c4_i32_407
  let v467 : BitVec 32 := Scalar.addi v465 v466
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_408 : BitVec 32 := 1#32
  let v468 : BitVec 32 := Scalar.muli v8 c1_i32_408
  let v469 : BitVec 32 := Scalar.addi v467 v468
  v469.toNat
def k0_off3 (d0 : Dev nD) (c0_i32_425 : BitVec 32) : Fin 2 → Nat :=
  let c1_i32_4 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v12 : BitVec 32 := Scalar.subi c1_i32_4 v5
  let c2048_i32_5 : BitVec 32 := 2048#32
  let v13 : BitVec 32 := Scalar.muli v12 c2048_i32_5
  let v490 : BitVec 32 := Scalar.addi v13 c0_i32_425
  let c0_i32_428 : BitVec 32 := 0#32
  ![v490.toNat, 0]
def k0_dev12 (d0 : Dev nD) : Nat :=
  let c0_i32_457 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_456 : BitVec 32 := 8#32
  let v515 : BitVec 32 := Scalar.muli v9 c8_i32_456
  let v516 : BitVec 32 := Scalar.addi c0_i32_457 v515
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_458 : BitVec 32 := 4#32
  let v517 : BitVec 32 := Scalar.muli v5 c4_i32_458
  let v518 : BitVec 32 := Scalar.addi v516 v517
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_459 : BitVec 32 := 1#32
  let v519 : BitVec 32 := Scalar.muli v8 c1_i32_459
  let v520 : BitVec 32 := Scalar.addi v518 v519
  v520.toNat
def k0_dev13 (d0 : Dev nD) : Nat :=
  let c0_i32_535 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_534 : BitVec 32 := 8#32
  let v603 : BitVec 32 := Scalar.muli v2 c8_i32_534
  let v604 : BitVec 32 := Scalar.addi c0_i32_535 v603
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_536 : BitVec 32 := 4#32
  let v605 : BitVec 32 := Scalar.muli v10 c4_i32_536
  let v606 : BitVec 32 := Scalar.addi v604 v605
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_537 : BitVec 32 := 1#32
  let v607 : BitVec 32 := Scalar.muli v8 c1_i32_537
  let v608 : BitVec 32 := Scalar.addi v606 v607
  v608.toNat
def k0_dev14 (d0 : Dev nD) : Nat :=
  let c0_i32_586 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_585 : BitVec 32 := 8#32
  let v654 : BitVec 32 := Scalar.muli v9 c8_i32_585
  let v655 : BitVec 32 := Scalar.addi c0_i32_586 v654
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_587 : BitVec 32 := 4#32
  let v656 : BitVec 32 := Scalar.muli v5 c4_i32_587
  let v657 : BitVec 32 := Scalar.addi v655 v656
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_588 : BitVec 32 := 1#32
  let v658 : BitVec 32 := Scalar.muli v8 c1_i32_588
  let v659 : BitVec 32 := Scalar.addi v657 v658
  v659.toNat
def k0_dev15 (d0 : Dev nD) : Nat :=
  let c0_i32_663 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_662 : BitVec 32 := 8#32
  let v742 : BitVec 32 := Scalar.muli v2 c8_i32_662
  let v743 : BitVec 32 := Scalar.addi c0_i32_663 v742
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_664 : BitVec 32 := 4#32
  let v744 : BitVec 32 := Scalar.muli v10 c4_i32_664
  let v745 : BitVec 32 := Scalar.addi v743 v744
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_665 : BitVec 32 := 1#32
  let v746 : BitVec 32 := Scalar.muli v8 c1_i32_665
  let v747 : BitVec 32 := Scalar.addi v745 v746
  v747.toNat
def k0_dev16 (d0 : Dev nD) : Nat :=
  let c0_i32_721 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_720 : BitVec 32 := 8#32
  let v799 : BitVec 32 := Scalar.muli v9 c8_i32_720
  let v800 : BitVec 32 := Scalar.addi c0_i32_721 v799
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_722 : BitVec 32 := 4#32
  let v801 : BitVec 32 := Scalar.muli v5 c4_i32_722
  let v802 : BitVec 32 := Scalar.addi v800 v801
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_723 : BitVec 32 := 1#32
  let v803 : BitVec 32 := Scalar.muli v8 c1_i32_723
  let v804 : BitVec 32 := Scalar.addi v802 v803
  v804.toNat
def k0_dev17 (d0 : Dev nD) : Nat :=
  let c0_i32_798 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_797 : BitVec 32 := 8#32
  let v887 : BitVec 32 := Scalar.muli v2 c8_i32_797
  let v888 : BitVec 32 := Scalar.addi c0_i32_798 v887
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_799 : BitVec 32 := 4#32
  let v889 : BitVec 32 := Scalar.muli v10 c4_i32_799
  let v890 : BitVec 32 := Scalar.addi v888 v889
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_800 : BitVec 32 := 1#32
  let v891 : BitVec 32 := Scalar.muli v8 c1_i32_800
  let v892 : BitVec 32 := Scalar.addi v890 v891
  v892.toNat
def k0_dev18 (d0 : Dev nD) : Nat :=
  let c0_i32_855 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_854 : BitVec 32 := 8#32
  let v944 : BitVec 32 := Scalar.muli v9 c8_i32_854
  let v945 : BitVec 32 := Scalar.addi c0_i32_855 v944
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_856 : BitVec 32 := 4#32
  let v946 : BitVec 32 := Scalar.muli v5 c4_i32_856
  let v947 : BitVec 32 := Scalar.addi v945 v946
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_857 : BitVec 32 := 1#32
  let v948 : BitVec 32 := Scalar.muli v8 c1_i32_857
  let v949 : BitVec 32 := Scalar.addi v947 v948
  v949.toNat
def k0_dev19 (d0 : Dev nD) : Nat :=
  let c0_i32_932 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_931 : BitVec 32 := 8#32
  let v1032 : BitVec 32 := Scalar.muli v2 c8_i32_931
  let v1033 : BitVec 32 := Scalar.addi c0_i32_932 v1032
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_933 : BitVec 32 := 4#32
  let v1034 : BitVec 32 := Scalar.muli v10 c4_i32_933
  let v1035 : BitVec 32 := Scalar.addi v1033 v1034
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_934 : BitVec 32 := 1#32
  let v1036 : BitVec 32 := Scalar.muli v8 c1_i32_934
  let v1037 : BitVec 32 := Scalar.addi v1035 v1036
  v1037.toNat
def k0_dev20 (d0 : Dev nD) : Nat :=
  let c0_i32_989 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_988 : BitVec 32 := 8#32
  let v1089 : BitVec 32 := Scalar.muli v9 c8_i32_988
  let v1090 : BitVec 32 := Scalar.addi c0_i32_989 v1089
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_990 : BitVec 32 := 4#32
  let v1091 : BitVec 32 := Scalar.muli v5 c4_i32_990
  let v1092 : BitVec 32 := Scalar.addi v1090 v1091
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_991 : BitVec 32 := 1#32
  let v1093 : BitVec 32 := Scalar.muli v8 c1_i32_991
  let v1094 : BitVec 32 := Scalar.addi v1092 v1093
  v1094.toNat
def k0_dev21 (d0 : Dev nD) : Nat :=
  let c0_i32_1066 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1065 : BitVec 32 := 8#32
  let v1177 : BitVec 32 := Scalar.muli v2 c8_i32_1065
  let v1178 : BitVec 32 := Scalar.addi c0_i32_1066 v1177
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_1067 : BitVec 32 := 4#32
  let v1179 : BitVec 32 := Scalar.muli v10 c4_i32_1067
  let v1180 : BitVec 32 := Scalar.addi v1178 v1179
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1068 : BitVec 32 := 1#32
  let v1181 : BitVec 32 := Scalar.muli v8 c1_i32_1068
  let v1182 : BitVec 32 := Scalar.addi v1180 v1181
  v1182.toNat
def k0_dev22 (d0 : Dev nD) : Nat :=
  let c0_i32_1123 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_1122 : BitVec 32 := 8#32
  let v1234 : BitVec 32 := Scalar.muli v9 c8_i32_1122
  let v1235 : BitVec 32 := Scalar.addi c0_i32_1123 v1234
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1124 : BitVec 32 := 4#32
  let v1236 : BitVec 32 := Scalar.muli v5 c4_i32_1124
  let v1237 : BitVec 32 := Scalar.addi v1235 v1236
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1125 : BitVec 32 := 1#32
  let v1238 : BitVec 32 := Scalar.muli v8 c1_i32_1125
  let v1239 : BitVec 32 := Scalar.addi v1237 v1238
  v1239.toNat
def k0_dev23 (d0 : Dev nD) : Nat :=
  let c0_i32_1200 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1199 : BitVec 32 := 8#32
  let v1322 : BitVec 32 := Scalar.muli v2 c8_i32_1199
  let v1323 : BitVec 32 := Scalar.addi c0_i32_1200 v1322
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_1201 : BitVec 32 := 4#32
  let v1324 : BitVec 32 := Scalar.muli v10 c4_i32_1201
  let v1325 : BitVec 32 := Scalar.addi v1323 v1324
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1202 : BitVec 32 := 1#32
  let v1326 : BitVec 32 := Scalar.muli v8 c1_i32_1202
  let v1327 : BitVec 32 := Scalar.addi v1325 v1326
  v1327.toNat
def k0_dev24 (d0 : Dev nD) : Nat :=
  let c0_i32_1257 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_1256 : BitVec 32 := 8#32
  let v1379 : BitVec 32 := Scalar.muli v9 c8_i32_1256
  let v1380 : BitVec 32 := Scalar.addi c0_i32_1257 v1379
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1258 : BitVec 32 := 4#32
  let v1381 : BitVec 32 := Scalar.muli v5 c4_i32_1258
  let v1382 : BitVec 32 := Scalar.addi v1380 v1381
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1259 : BitVec 32 := 1#32
  let v1383 : BitVec 32 := Scalar.muli v8 c1_i32_1259
  let v1384 : BitVec 32 := Scalar.addi v1382 v1383
  v1384.toNat
def k0_dev25 (d0 : Dev nD) : Nat :=
  let c0_i32_1334 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1333 : BitVec 32 := 8#32
  let v1467 : BitVec 32 := Scalar.muli v2 c8_i32_1333
  let v1468 : BitVec 32 := Scalar.addi c0_i32_1334 v1467
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_1335 : BitVec 32 := 4#32
  let v1469 : BitVec 32 := Scalar.muli v10 c4_i32_1335
  let v1470 : BitVec 32 := Scalar.addi v1468 v1469
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1336 : BitVec 32 := 1#32
  let v1471 : BitVec 32 := Scalar.muli v8 c1_i32_1336
  let v1472 : BitVec 32 := Scalar.addi v1470 v1471
  v1472.toNat
def k0_dev26 (d0 : Dev nD) : Nat :=
  let c0_i32_1391 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_1390 : BitVec 32 := 8#32
  let v1524 : BitVec 32 := Scalar.muli v9 c8_i32_1390
  let v1525 : BitVec 32 := Scalar.addi c0_i32_1391 v1524
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1392 : BitVec 32 := 4#32
  let v1526 : BitVec 32 := Scalar.muli v5 c4_i32_1392
  let v1527 : BitVec 32 := Scalar.addi v1525 v1526
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1393 : BitVec 32 := 1#32
  let v1528 : BitVec 32 := Scalar.muli v8 c1_i32_1393
  let v1529 : BitVec 32 := Scalar.addi v1527 v1528
  v1529.toNat
def k0_dev27 (d0 : Dev nD) : Nat :=
  let c0_i32_1468 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1467 : BitVec 32 := 8#32
  let v1612 : BitVec 32 := Scalar.muli v2 c8_i32_1467
  let v1613 : BitVec 32 := Scalar.addi c0_i32_1468 v1612
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_1469 : BitVec 32 := 4#32
  let v1614 : BitVec 32 := Scalar.muli v10 c4_i32_1469
  let v1615 : BitVec 32 := Scalar.addi v1613 v1614
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1470 : BitVec 32 := 1#32
  let v1616 : BitVec 32 := Scalar.muli v8 c1_i32_1470
  let v1617 : BitVec 32 := Scalar.addi v1615 v1616
  v1617.toNat
def k0_dev28 (d0 : Dev nD) : Nat :=
  let c0_i32_1525 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_1524 : BitVec 32 := 8#32
  let v1669 : BitVec 32 := Scalar.muli v9 c8_i32_1524
  let v1670 : BitVec 32 := Scalar.addi c0_i32_1525 v1669
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1526 : BitVec 32 := 4#32
  let v1671 : BitVec 32 := Scalar.muli v5 c4_i32_1526
  let v1672 : BitVec 32 := Scalar.addi v1670 v1671
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1527 : BitVec 32 := 1#32
  let v1673 : BitVec 32 := Scalar.muli v8 c1_i32_1527
  let v1674 : BitVec 32 := Scalar.addi v1672 v1673
  v1674.toNat
def k0_dev29 (d0 : Dev nD) : Nat :=
  let c0_i32_1602 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1601 : BitVec 32 := 8#32
  let v1757 : BitVec 32 := Scalar.muli v2 c8_i32_1601
  let v1758 : BitVec 32 := Scalar.addi c0_i32_1602 v1757
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_1603 : BitVec 32 := 4#32
  let v1759 : BitVec 32 := Scalar.muli v10 c4_i32_1603
  let v1760 : BitVec 32 := Scalar.addi v1758 v1759
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1604 : BitVec 32 := 1#32
  let v1761 : BitVec 32 := Scalar.muli v8 c1_i32_1604
  let v1762 : BitVec 32 := Scalar.addi v1760 v1761
  v1762.toNat
def k0_dev30 (d0 : Dev nD) : Nat :=
  let c0_i32_1659 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_1658 : BitVec 32 := 8#32
  let v1814 : BitVec 32 := Scalar.muli v9 c8_i32_1658
  let v1815 : BitVec 32 := Scalar.addi c0_i32_1659 v1814
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1660 : BitVec 32 := 4#32
  let v1816 : BitVec 32 := Scalar.muli v5 c4_i32_1660
  let v1817 : BitVec 32 := Scalar.addi v1815 v1816
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1661 : BitVec 32 := 1#32
  let v1818 : BitVec 32 := Scalar.muli v8 c1_i32_1661
  let v1819 : BitVec 32 := Scalar.addi v1817 v1818
  v1819.toNat
def k0_dev31 (d0 : Dev nD) : Nat :=
  let c0_i32_1730 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1729 : BitVec 32 := 8#32
  let v1895 : BitVec 32 := Scalar.muli v2 c8_i32_1729
  let v1896 : BitVec 32 := Scalar.addi c0_i32_1730 v1895
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_1731 : BitVec 32 := 4#32
  let v1897 : BitVec 32 := Scalar.muli v10 c4_i32_1731
  let v1898 : BitVec 32 := Scalar.addi v1896 v1897
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1732 : BitVec 32 := 1#32
  let v1899 : BitVec 32 := Scalar.muli v8 c1_i32_1732
  let v1900 : BitVec 32 := Scalar.addi v1898 v1899
  v1900.toNat
def k0_dev32 (d0 : Dev nD) : Nat :=
  let c0_i32_1825 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1824 : BitVec 32 := 8#32
  let v2000 : BitVec 32 := Scalar.muli v2 c8_i32_1824
  let v2001 : BitVec 32 := Scalar.addi c0_i32_1825 v2000
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_1826 : BitVec 32 := 4#32
  let v2002 : BitVec 32 := Scalar.muli v10 c4_i32_1826
  let v2003 : BitVec 32 := Scalar.addi v2001 v2002
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1827 : BitVec 32 := 1#32
  let v2004 : BitVec 32 := Scalar.muli v8 c1_i32_1827
  let v2005 : BitVec 32 := Scalar.addi v2003 v2004
  v2005.toNat
def k0_dev33 (d0 : Dev nD) : Nat :=
  let c0_i32_1920 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1919 : BitVec 32 := 8#32
  let v2105 : BitVec 32 := Scalar.muli v2 c8_i32_1919
  let v2106 : BitVec 32 := Scalar.addi c0_i32_1920 v2105
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_1921 : BitVec 32 := 4#32
  let v2107 : BitVec 32 := Scalar.muli v10 c4_i32_1921
  let v2108 : BitVec 32 := Scalar.addi v2106 v2107
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1922 : BitVec 32 := 1#32
  let v2109 : BitVec 32 := Scalar.muli v8 c1_i32_1922
  let v2110 : BitVec 32 := Scalar.addi v2108 v2109
  v2110.toNat
def k0_dev34 (d0 : Dev nD) : Nat :=
  let c0_i32_2009 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_2008 : BitVec 32 := 8#32
  let v2204 : BitVec 32 := Scalar.muli v2 c8_i32_2008
  let v2205 : BitVec 32 := Scalar.addi c0_i32_2009 v2204
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_2010 : BitVec 32 := 4#32
  let v2206 : BitVec 32 := Scalar.muli v10 c4_i32_2010
  let v2207 : BitVec 32 := Scalar.addi v2205 v2206
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2011 : BitVec 32 := 1#32
  let v2208 : BitVec 32 := Scalar.muli v8 c1_i32_2011
  let v2209 : BitVec 32 := Scalar.addi v2207 v2208
  v2209.toNat
abbrev stage0_0 : Fin 1 → Memref sig .tc .vmem S4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S2x4096x4096 : Shape := ⟨3, ![2, 4096, 4096]⟩
abbrev S4096x4096 : Shape := ⟨2, ![4096, 4096]⟩
abbrev S4096 : Shape := ⟨1, ![4096]⟩
abbrev S_ : Shape := ⟨0, ![]⟩
abbrev S4096x1 : Shape := ⟨2, ![4096, 1]⟩
abbrev S1x4096 : Shape := ⟨2, ![1, 4096]⟩

abbrev nBuf : Space → Nat
  | .hbm => 23
  | .vmem => 0
  | .smem => 0
  | _ => 0

abbrev bufTy : (tb : Table) → Fin (tcTables nBuf tb) → BufTy
  | .hbm, ⟨0, _⟩ => ⟨S2x4096x4096, .f32⟩
  | .hbm, ⟨1, _⟩ => ⟨S4096x4096, .f32⟩
  | .hbm, ⟨2, _⟩ => ⟨S4096, .f32⟩
  | .hbm, ⟨3, _⟩ => ⟨S_, .f32⟩
  | .hbm, ⟨4, _⟩ => ⟨S4096x4096, .f32⟩
  | .hbm, ⟨5, _⟩ => ⟨S4096x4096, .f32⟩
  | .hbm, ⟨6, _⟩ => ⟨S4096x4096, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x4096, .f32⟩
  | .hbm, ⟨18, _⟩ => ⟨S4096x4096, .f32⟩
  | .hbm, ⟨19, _⟩ => ⟨S1x4096, .f32⟩
  | .hbm, ⟨20, _⟩ => ⟨S4096x4096, .f32⟩
  | .hbm, ⟨21, _⟩ => ⟨S4096x4096, .f32⟩
  | .hbm, ⟨22, _⟩ => ⟨S4096x4096, .bf16⟩
  | _, _ => ⟨S2x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== Proof.KernelIdeal.Steps.lean ====
/- The kernel's body written once per CHUNK. A device owns 16 chunks of 128 rows of its half of the result; the
   printed body is the same few operations unrolled over the chunks, their buffer slots and semaphores taken
   round a ring of 2 or 4 or one per chunk. Here each operation is a definition over the chunk's number, `turn k`
   is the k-th turn of the kernel's loop, and `body_eq` states that the printed body IS the prelude, the sixteen
   turns and the tail. -/
module

public import proofs.«01_k».proof.Proof.Gen.KernelIdeal
public import proofs.«01_k».proof.Proof.Gen.KernelIdeal.Launch
public import Idealize.ShloMosaic.Lib.Tactic

@[expose] public section

noncomputable section

namespace Cert.KernelIdeal.Norm

open Cert.KernelIdeal Cert.KernelIdeal.Gen
open Idealize.ShloMosaic Idealize.SL.Sem
open Idealize.ShloMosaic.TcCoe

variable {F : FTy → Type} [FloatOps F]

/-- A program of a device that returns nothing. -/
abbrev P (F : FTy → Type) [FloatOps F] : Type 1 := Prog (TpuEff nD τ sig (Elt F) Λ₀ .tc) PUnit

/-! ## Slots: chunk `k` in a ring of four, of two, and the whole family -/

/-- The slot of chunk `k` in a ring of four buffers. -/
abbrev s4 (k : Fin 16) : Fin 4 := ⟨k.val % 4, Nat.mod_lt _ (by decide)⟩
/-- The slot of chunk `k` in a ring of two buffers. -/
abbrev s2 (k : Fin 16) : Fin 2 := ⟨k.val % 2, Nat.mod_lt _ (by decide)⟩

theorem inb4 : ∀ s : Fin 4, ∀ a, (![s.val, 0, 0] : Fin 3 → Nat) a + S1x128x4096.size a ≤ S4x128x4096.size a := by decide
theorem inb2 : ∀ s : Fin 2, ∀ a, (![s.val, 0, 0] : Fin 3 → Nat) a + S1x128x4096.size a ≤ S2x128x4096.size a := by decide
theorem inb16 : ∀ s : Fin 16, ∀ a, (![s.val, 0, 0] : Fin 3 → Nat) a + S1x128x4096.size a ≤ S16x128x4096.size a := by decide
theorem inbS4 : ∀ s : Fin 4, ∀ a, (![s.val] : Fin 1 → Nat) a + S1.size a ≤ S4.size a := by decide
theorem inbS2 : ∀ s : Fin 2, ∀ a, (![s.val] : Fin 1 → Nat) a + S1.size a ≤ S2.size a := by decide
theorem inbS16 : ∀ s : Fin 16, ∀ a, (![s.val] : Fin 1 → Nat) a + S1.size a ≤ S16.size a := by decide

/-- Slot `s` of a ring of four, as a rectangle of the buffer. -/
abbrev r4 (s : Fin 4) : Rect S4x128x4096 := Rect.unit (s := S4x128x4096) ![s.val, 0, 0] S1x128x4096.size (inb4 s)
/-- Slot `s` of a ring of two. -/
abbrev r2 (s : Fin 2) : Rect S2x128x4096 := Rect.unit (s := S2x128x4096) ![s.val, 0, 0] S1x128x4096.size (inb2 s)
/-- Slot `s` of a family of sixteen. -/
abbrev r16 (s : Fin 16) : Rect S16x128x4096 := Rect.unit (s := S16x128x4096) ![s.val, 0, 0] S1x128x4096.size (inb16 s)

theorem packed4 : ∀ s : Fin 4, (r4 s).PackedRows (EltTy.packing .bf16) := by decide
theorem packed2 : ∀ s : Fin 2, (r2 s).PackedRows (EltTy.packing .bf16) := by decide
theorem words4 (s : Fin 4) : (r4 s).WholeWords (EltTy.packing .bf16) := (packed4 s).wholeWords
theorem words2 (s : Fin 2) : (r2 s).WholeWords (EltTy.packing .bf16) := (packed2 s).wholeWords
theorem words16 : ∀ s : Fin 16, (r16 s).WholeWords (EltTy.packing .bf16) := by decide

/-! ## Buffers and semaphores -/

/-- Slot `s` of the buffer that this device's partial sums are copied into. -/
def pa (s : Fin 4) : Memref sig .tc .vmem S128x4096 .f32 :=
  ((Memref.whole cc0_scratch0).slice (r4 s) (fun _ => rfl)).squeeze S128x4096 squeezes_S1x128x4096_S128x4096
/-- Slot `s` of the buffer that the residual's rows are copied into. -/
def rs (s : Fin 2) : Memref sig .tc .vmem S128x4096 .f32 :=
  ((Memref.whole cc0_scratch1).slice (r2 s) (fun _ => rfl)).squeeze S128x4096 squeezes_S1x128x4096_S128x4096
/-- Slot `s` of the buffer of finished chunks. -/
def ob (s : Fin 2) : Memref sig .tc .vmem S128x4096 .bf16 :=
  ((Memref.whole cc0_scratch2).slice (r2 s) (fun _ => rfl)).squeeze S128x4096 squeezes_S1x128x4096_S128x4096
/-- Slot `s` of the buffer that the copies to the x-neighbour leave from. -/
def xs (s : Fin 4) : Memref sig .tc .vmem S128x4096 .bf16 :=
  ((Memref.whole cc0_scratch3).slice (r4 s) (fun _ => rfl)).squeeze S128x4096 squeezes_S1x128x4096_S128x4096
/-- Slot `k` of the buffer that the x-neighbour's partial sums arrive in. -/
def xr (k : Fin 16) : Memref sig .tc .vmem S128x4096 .bf16 :=
  ((Memref.whole cc0_scratch4).slice (r16 k) (fun _ => rfl)).squeeze S128x4096 squeezes_S1x128x4096_S128x4096
/-- Slot `k` of the buffer that the y-neighbour's finished chunks arrive in. -/
def yr (k : Fin 16) : Memref sig .tc .vmem S128x4096 .bf16 :=
  ((Memref.whole cc0_scratch5).slice (r16 k) (fun _ => rfl)).squeeze S128x4096 squeezes_S1x128x4096_S128x4096

/-- Rows of chunk `k` of this device's partial sums, in the half that device `d` finishes. -/
def paSrc (d : Dev nD) (k : Fin 16) : Memref sig .tc .hbm S128x4096 .f32 :=
  ((Memref.whole main_arg0).slice (Rect.unit (s := S1x4096x4096) (k0_off1 d (BitVec.ofNat 32 (128 * k.val)))
    S1x128x4096.size (k0_off1_inb d k)) (fun _ => rfl)).squeeze S128x4096 squeezes_S1x128x4096_S128x4096
/-- The same rows of the residual. -/
def rsSrc (d : Dev nD) (k : Fin 16) : Memref sig .tc .hbm S128x4096 .f32 :=
  (Memref.whole main_arg1).slice (Rect.unit (s := S4096x4096) (k0_off2 d (BitVec.ofNat 32 (128 * k.val)))
    S128x4096.size (k0_off2_inb d k)) (fun _ => rfl)
/-- The same rows of the result. -/
def outOwn (d : Dev nD) (k : Fin 16) : Memref sig .tc .hbm S128x4096 .bf16 :=
  (Memref.whole main_v1).slice (Rect.unit (s := S4096x4096) (k0_off2 d (BitVec.ofNat 32 (128 * k.val)))
    S128x4096.size (k0_off2_inb d k)) (fun _ => rfl)
/-- The rows of the result that the y-neighbour finishes. -/
def outOther (d : Dev nD) (k : Fin 16) : Memref sig .tc .hbm S128x4096 .bf16 :=
  (Memref.whole main_v1).slice (Rect.unit (s := S4096x4096) (k0_off3 d (BitVec.ofNat 32 (128 * k.val)))
    S128x4096.size (k0_off3_inb d k)) (fun _ => rfl)

/-- The semaphore of the copies into `pa s`. -/
def paSem (s : Fin 4) : DmaSem sig :=
  ((cc0_scratch6.slice (Rect.unit (s := S4) ![s.val] S1.size (inbS4 s))).squeeze S_ squeezes_S1_S_).sem
/-- The semaphore of the copies into `rs s`. -/
def rsSem (s : Fin 2) : DmaSem sig :=
  ((cc0_scratch7.slice (Rect.unit (s := S2) ![s.val] S1.size (inbS2 s))).squeeze S_ squeezes_S1_S_).sem
/-- The semaphore of the copies out of `ob s` to the result. -/
def obSem (s : Fin 2) : DmaSem sig :=
  ((cc0_scratch8.slice (Rect.unit (s := S2) ![s.val] S1.size (inbS2 s))).squeeze S_ squeezes_S1_S_).sem
/-- The semaphore of the copies out of `yr` to the result. -/
def ycSem (s : Fin 2) : DmaSem sig :=
  ((cc0_scratch9.slice (Rect.unit (s := S2) ![s.val] S1.size (inbS2 s))).squeeze S_ squeezes_S1_S_).sem
/-- The semaphore on which a copy out of `xs s` has left. -/
def xsSem (s : Fin 4) : DmaSem sig :=
  ((cc0_scratch10.slice (Rect.unit (s := S4) ![s.val] S1.size (inbS4 s))).squeeze S_ squeezes_S1_S_).sem
/-- The semaphore on which chunk `k` from the x-neighbour has arrived. -/
def xrSem (k : Fin 16) : DmaSem sig :=
  ((cc0_scratch11.slice (Rect.unit (s := S16) ![k.val] S1.size (inbS16 k))).squeeze S_ squeezes_S1_S_).sem
/-- The semaphore on which a copy out of `ob s` to the y-neighbour has left. -/
def ysSem (s : Fin 2) : DmaSem sig :=
  ((cc0_scratch12.slice (Rect.unit (s := S2) ![s.val] S1.size (inbS2 s))).squeeze S_ squeezes_S1_S_).sem
/-- The semaphore on which chunk `k` from the y-neighbour has arrived. -/
def yrSem (k : Fin 16) : DmaSem sig :=
  ((cc0_scratch13.slice (Rect.unit (s := S16) ![k.val] S1.size (inbS16 k))).squeeze S_ squeezes_S1_S_).sem

/-- The runtime's barrier semaphore. -/
abbrev barS : Sem sig := sig.barrier 0 rfl

/-- The x-neighbour and the y-neighbour, as the kernel computes them. -/
def xDev (d : Dev nD) : Dev nD := ⟨k0_dev1 d, k0_dev1_lt d⟩
@[inherit_doc xDev]
def yDev (d : Dev nD) : Dev nD := ⟨k0_dev2 d, k0_dev2_lt d⟩

/-! ## What the kernel computes of a chunk -/

/-- The partial sums as they travel: rounded to bf16. -/
def castPay (v : Vec F S1x128x4096 .f32) : FVec F S1x128x4096 .bf16 :=
  shapeCast S1x128x4096 (truncf .bf16 (shapeCast S128x4096 v shapeCasts_S1x128x4096_S128x4096) bitsLt_bf16_f32)
    shapeCasts_S128x4096_S1x128x4096

/-- gamma as the row that every row is multiplied by. -/
def gammaRow (v : Vec F S4096 .f32) : FVec F S1x4096 .f32 :=
  shapeCast S1x4096 (shapeCast S4096 v shapeCasts_S4096_S4096) shapeCasts_S4096_S1x4096

/-- The sum of this device's partial sums, the x-neighbour's and the residual. -/
def sumPay (p : Vec F S1x128x4096 .f32) (x : Vec F S1x128x4096 .bf16) (r : Vec F S1x128x4096 .f32) : FVec F S128x4096 .f32 :=
  addf (addf (shapeCast S128x4096 p shapeCasts_S1x128x4096_S128x4096)
      (extf .f32 (shapeCast S128x4096 x shapeCasts_S1x128x4096_S128x4096) bitsLt_bf16_f32))
    (shapeCast S128x4096 r shapeCasts_S1x128x4096_S128x4096)

/-- A chunk normalised by the root of its rows' mean squares, scaled by gamma, rounded to bf16. -/
def normPay (g : FVec F S1x4096 .f32) (y : FVec F S128x4096 .f32) : FVec F S1x128x4096 .bf16 :=
  shapeCast S1x128x4096
    (truncf .bf16
      (mulf
        (mulf y
          (broadcastTo S128x4096
            (rsqrt
              (addf
                (divf
                  (shapeCast S128x1
                    (multiReduction .add [1] S128 (mulf y y) 0x00000000#32 reduces_S128x4096_S128 (.inl rfl) rfl)
                    shapeCasts_S128_S128x1)
                  (broadcast S128x1 (Scalar.ofBits .f32 0x45800000#32 : F .f32)))
                (broadcast S128x1 (Scalar.ofBits .f32 0x358637BD#32 : F .f32))))
            broadcasts_S128x1_S128x4096))
        (broadcastTo S128x4096 g broadcasts_S1x4096_S128x4096))
      bitsLt_bf16_f32)
    shapeCasts_S128x4096_S1x128x4096

/-! ## The operations over a chunk's number, each with the program that follows it -/

/-- Start the copy of chunk `k`'s partial sums in. -/
def paStart (d : Dev nD) (k : Fin 16) (K : P F) : P F :=
  .op (.enqueueDma (paSrc d k) (.here (pa (s4 k))) (.dma (paSem (s4 k)))
    ((View.wordExact_bits rfl).reshape _ _) ((View.wordExact_bits rfl).reshape _ _) ⟨Or.inl rfl, trivial⟩) fun _ => K
/-- Wait for it. -/
def paWait (d : Dev nD) (k : Fin 16) (K : P F) : P F :=
  .op (.waitDma2 (paSem (s4 k)) (paSrc d k) (pa (s4 k))
    ((View.wordExact_bits rfl).reshape _ _) ((View.wordExact_bits rfl).reshape _ _)) fun _ => K
/-- Start the copy of chunk `k`'s residual in. -/
def rsStart (d : Dev nD) (k : Fin 16) (K : P F) : P F :=
  .op (.enqueueDma (rsSrc d k) (.here (rs (s2 k))) (.dma (rsSem (s2 k)))
    (View.wordExact_bits rfl) ((View.wordExact_bits rfl).reshape _ _) ⟨Or.inl rfl, trivial⟩) fun _ => K
/-- Wait for it. -/
def rsWait (d : Dev nD) (k : Fin 16) (K : P F) : P F :=
  .op (.waitDma2 (rsSem (s2 k)) (rsSrc d k) (rs (s2 k))
    (View.wordExact_bits rfl) ((View.wordExact_bits rfl).reshape _ _)) fun _ => K
/-- Start the copy of the finished chunk `k` to this device's result. -/
def obStart (d : Dev nD) (k : Fin 16) (K : P F) : P F :=
  .op (.enqueueDma (ob (s2 k)) (.here (outOwn d k)) (.dma (obSem (s2 k)))
    (((Memref.isWhole_whole cc0_scratch2).wordExact_slice rfl _ (words2 (s2 k))).reshape _ _)
    ((Memref.isWhole_whole main_v1).wordExact_slice rfl _ (k0_off2_wordsbf16 d k)) ⟨Or.inl rfl, trivial⟩) fun _ => K
/-- Wait for it. -/
def obWait (d : Dev nD) (k : Fin 16) (K : P F) : P F :=
  .op (.waitDma2 (obSem (s2 k)) (ob (s2 k)) (outOwn d k)
    (((Memref.isWhole_whole cc0_scratch2).wordExact_slice rfl _ (words2 (s2 k))).reshape _ _)
    ((Memref.isWhole_whole main_v1).wordExact_slice rfl _ (k0_off2_wordsbf16 d k))) fun _ => K
/-- Start the copy of the y-neighbour's chunk `k` to this device's result. -/
def ycStart (d : Dev nD) (k : Fin 16) (K : P F) : P F :=
  .op (.enqueueDma (yr k) (.here (outOther d k)) (.dma (ycSem (s2 k)))
    (((Memref.isWhole_whole cc0_scratch5).wordExact_slice rfl _ (words16 k)).reshape _ _)
    ((Memref.isWhole_whole main_v1).wordExact_slice rfl _ (k0_off3_wordsbf16 d k)) ⟨Or.inl rfl, trivial⟩) fun _ => K
/-- Wait for it. -/
def ycWait (d : Dev nD) (k : Fin 16) (K : P F) : P F :=
  .op (.waitDma2 (ycSem (s2 k)) (yr k) (outOther d k)
    (((Memref.isWhole_whole cc0_scratch5).wordExact_slice rfl _ (words16 k)).reshape _ _)
    ((Memref.isWhole_whole main_v1).wordExact_slice rfl _ (k0_off3_wordsbf16 d k))) fun _ => K
/-- Start the copy of the rounded partial sums of chunk `k` to the x-neighbour. -/
def xStart (d : Dev nD) (k : Fin 16) (K : P F) : P F :=
  .op (.enqueueDma (xs (s4 k)) (.remote (Dev.tc (xDev d)) (xr k) (.dma (xsSem (s4 k)))) (.dma (xrSem k))
    (((Memref.isWhole_whole cc0_scratch3).wordExact_slice rfl _ (words4 (s4 k))).reshape _ _)
    (((Memref.isWhole_whole cc0_scratch4).wordExact_slice rfl _ (words16 k)).reshape _ _)
    ⟨⟨rfl, Or.inl rfl⟩, trivial⟩) fun _ => K
/-- Wait until it has left. -/
def xSent (k : Fin 16) (K : P F) : P F :=
  .op (.waitDma2 (xsSem (s4 k)) (xr k) (xs (s4 k))
    (((Memref.isWhole_whole cc0_scratch4).wordExact_slice rfl _ (words16 k)).reshape _ _)
    (((Memref.isWhole_whole cc0_scratch3).wordExact_slice rfl _ (words4 (s4 k))).reshape _ _)) fun _ => K
/-- Wait until the x-neighbour's chunk `k` has arrived. -/
def xRecv (k : Fin 16) (K : P F) : P F :=
  .op (.waitDma2 (xrSem k) (xs (s4 k)) (xr k)
    (((Memref.isWhole_whole cc0_scratch3).wordExact_slice rfl _ (words4 (s4 k))).reshape _ _)
    (((Memref.isWhole_whole cc0_scratch4).wordExact_slice rfl _ (words16 k)).reshape _ _)) fun _ => K
/-- Start the copy of the finished chunk `k` to the y-neighbour. -/
def yStart (d : Dev nD) (k : Fin 16) (K : P F) : P F :=
  .op (.enqueueDma (ob (s2 k)) (.remote (Dev.tc (yDev d)) (yr k) (.dma (ysSem (s2 k)))) (.dma (yrSem k))
    (((Memref.isWhole_whole cc0_scratch2).wordExact_slice rfl _ (words2 (s2 k))).reshape _ _)
    (((Memref.isWhole_whole cc0_scratch5).wordExact_slice rfl _ (words16 k)).reshape _ _)
    ⟨⟨rfl, Or.inl rfl⟩, trivial⟩) fun _ => K
/-- Wait until it has left. -/
def ySent (k : Fin 16) (K : P F) : P F :=
  .op (.waitDma2 (ysSem (s2 k)) (yr k) (ob (s2 k))
    (((Memref.isWhole_whole cc0_scratch5).wordExact_slice rfl _ (words16 k)).reshape _ _)
    (((Memref.isWhole_whole cc0_scratch2).wordExact_slice rfl _ (words2 (s2 k))).reshape _ _)) fun _ => K
/-- Wait until the y-neighbour's chunk `k` has arrived. -/
def yRecv (k : Fin 16) (K : P F) : P F :=
  .op (.waitDma2 (yrSem k) (ob (s2 k)) (yr k)
    (((Memref.isWhole_whole cc0_scratch2).wordExact_slice rfl _ (words2 (s2 k))).reshape _ _)
    (((Memref.isWhole_whole cc0_scratch5).wordExact_slice rfl _ (words16 k)).reshape _ _)) fun _ => K

/-- Read the partial sums of chunk `k`. -/
def paLoad (k : Fin 16) (K : Vec F S1x128x4096 .f32 → P F) : P F :=
  .op (.load (Memref.whole cc0_scratch0) (r4 (s4 k)).toLoadRect (View.loadsAt_vmem h_S1x128x4096)) K
/-- Read the residual of chunk `k`. -/
def rsLoad (k : Fin 16) (K : Vec F S1x128x4096 .f32 → P F) : P F :=
  .op (.load (Memref.whole cc0_scratch1) (r2 (s2 k)).toLoadRect (View.loadsAt_vmem h_S1x128x4096)) K
/-- Read what the x-neighbour sent. -/
def xrLoad (k : Fin 16) (K : Vec F S1x128x4096 .bf16 → P F) : P F :=
  .op (.load (Memref.whole cc0_scratch4) (r16 k).toLoadRect (View.loadsAt_vmem h_S1x128x4096)) K
/-- Put `v` into the slot of chunk `k` that leaves for the x-neighbour (the slot is read first, and what was read
    not used). -/
def xsPut (k : Fin 16) (v : Vec F S1x128x4096 .bf16) (K : P F) : P F :=
  .op (.load (Memref.whole cc0_scratch3) (r4 (s4 k)).toLoadRect (View.loadsAt_vmem h_S1x128x4096)) fun _ =>
  .op (.store (Memref.whole cc0_scratch3) (r4 (s4 k)) v Finset.univ
    (View.stores_vmem h_S1x128x4096 ((Memref.isWhole_whole cc0_scratch3).storeExact_slice rfl _ (packed4 (s4 k))) (fun _ => rfl)) (.inl rfl))
    fun _ => K
/-- Put `v` into the slot of the finished chunk `k`, likewise. -/
def obPut (k : Fin 16) (v : Vec F S1x128x4096 .bf16) (K : P F) : P F :=
  .op (.load (Memref.whole cc0_scratch2) (r2 (s2 k)).toLoadRect (View.loadsAt_vmem h_S1x128x4096)) fun _ =>
  .op (.store (Memref.whole cc0_scratch2) (r2 (s2 k)) v Finset.univ
    (View.stores_vmem h_S1x128x4096 ((Memref.isWhole_whole cc0_scratch2).storeExact_slice rfl _ (packed2 (s2 k))) (fun _ => rfl)) (.inl rfl))
    fun _ => K

/-! ## The turns -/

/-- Do `f` at the chunk `n` after or before, if there is one. -/
def when (n : ℕ) (f : Fin 16 → P F → P F) (K : P F) : P F := if h : n < 16 then f ⟨n, h⟩ K else K
/-- Do `f` at the chunk `n` before `k`, if there is one. -/
def back (k : Fin 16) (n : ℕ) (f : Fin 16 → P F → P F) (K : P F) : P F :=
  if h : n ≤ k.val then f ⟨k.val - n, Nat.lt_of_le_of_lt (Nat.sub_le _ _) k.isLt⟩ K else K

/-- Round chunk `k` of the partial sums and start it to the x-neighbour. -/
def stage1 (d : Dev nD) (k : Fin 16) (K : P F) : P F :=
  back k 4 xSent (paWait d k (paLoad k fun v => xsPut k (castPay v) (xStart d k K)))
/-- Take chunk `k` from the y-neighbour and start it to the result. -/
def consume (d : Dev nD) (k : Fin 16) (K : P F) : P F :=
  yRecv k (back k 2 (ycWait d) (ycStart d k K))

/-- The k-th turn of the kernel's loop. -/
def turn (d : Dev nD) (g : FVec F S1x4096 .f32) (k : Fin 16) (K : P F) : P F :=
  when (k.val + 3) (stage1 d) <|
  when (k.val + 1) (rsStart d) <|
  xRecv k <| rsWait d k <|
  paLoad k fun p => xrLoad k fun x => rsLoad k fun r =>
  when (k.val + 4) (paStart d) <|
  back k 2 (fun j K => obWait d j (ySent j K)) <|
  obPut k (normPay g (sumPay p x r)) <|
  obStart d k <| yStart d k <|
  back k 2 (consume d) K

/-- The turns from `k` on: `n` of them. -/
def turns (d : Dev nD) (g : FVec F S1x4096 .f32) : (n k : ℕ) → P F → P F
  | 0, _, K => K
  | n + 1, k, K => when k (turn d g) (turns d g n (k + 1) K)

/-- What is done before the first turn: the handshake with both neighbours, gamma, the first copies in and out. -/
def prelude (stg : Memref sig .tc .vmem S4096 .f32) (K : Dev nD → FVec F S1x4096 .f32 → P F) : P F :=
  .op .deviceId fun d : Dev nD =>
  .op (.semSignal (xDev d, .tc) barS ((1 : ℕ) : ℤ)) fun _ =>
  .op (.semSignal (yDev d, .tc) barS ((1 : ℕ) : ℤ)) fun _ =>
  .op (.semWait barS ((2 : ℕ) : ℤ)) fun _ =>
  .op (.load stg (Rect.unit (s := S4096) ![0] S4096.size inb_S4096_S4096_0).toLoadRect (View.loadsAt_vmem h_S4096)) fun v =>
  paStart d 0 <| paStart d 1 <| paStart d 2 <| paStart d 3 <| rsStart d 0 <|
  stage1 d 0 <| stage1 d 1 <| stage1 d 2 <| K d (gammaRow v)

/-- What is done after the last turn: the last chunks from the y-neighbour, and every copy waited for. -/
def finish (d : Dev nD) (K : P F) : P F :=
  consume d 14 <| consume d 15 <|
  xSent 12 <| xSent 13 <| xSent 14 <| xSent 15 <|
  ySent 14 <| obWait d 14 <| ycWait d 14 <|
  ySent 15 <| obWait d 15 <| ycWait d 15 K

/-- The body, over the window of gamma. -/
def body (stg : Memref sig .tc .vmem S4096 .f32) : P F :=
  prelude stg fun d g => turns d g 16 0 <| finish d (.ret ⟨⟩)

set_option maxRecDepth 100000 in
/-- The printed body is this one. -/
theorem body_eq (s : Fin 1) :
    cc0_body (F := F) (Memref.whole main_arg0) (Memref.isWhole_whole _) (Memref.whole main_arg1) (Memref.isWhole_whole _)
      (stage0_0 s) (hstage0_0 s) (Memref.whole main_v1) (Memref.isWhole_whole _)
      (Memref.whole cc0_scratch0) (Memref.isWhole_whole _) (Memref.whole cc0_scratch1) (Memref.isWhole_whole _)
      (Memref.whole cc0_scratch2) (Memref.isWhole_whole _) (Memref.whole cc0_scratch3) (Memref.isWhole_whole _)
      (Memref.whole cc0_scratch4) (Memref.isWhole_whole _) (Memref.whole cc0_scratch5) (Memref.isWhole_whole _)
      cc0_scratch6 cc0_scratch7 cc0_scratch8 cc0_scratch9 cc0_scratch10 cc0_scratch11 cc0_scratch12 cc0_scratch13
    = body (stage0_0 s) := by
  sl_kernel_rfl

end Cert.KernelIdeal.Norm
-- ==== Proof.KernelIdeal.Ops.lean ====
/- The rules of single operations, in the form in which the proof of the body uses them: a memref is OWNED at what it
   reads (`owns`), a copy in flight is a `Flight` that gives back, when it is waited for, its two ends and its
   semaphore at zero. -/
module

public import proofs.«01_k».proof.Proof.KernelIdeal.Steps
public import Idealize.ShloMosaic.Lib.Pipeline.Launch
public import Idealize.ShloMosaic.Lib.Pipeline.Kit
public import Idealize.ShloMosaic.Lib.Transfers
public import Idealize.ShloMosaic.Lib.Pipeline.Value

@[expose] public section

noncomputable section

namespace Cert.KernelIdeal.Norm

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

/-! ## The resource algebra: the pipeline's rounds, this protocol's rounds, and counters for copies in flight -/

abbrev UB : Type := URounds (GSem nD τ sig) Bool
abbrev UU : Type := UR sig nD τ × (UB × Counters)

/-- The resources of a run. -/
abbrev RM (F : FTy → Type) [FloatOps F] := MT nD τ sig Unit (Elt F) ℕ UU ℕ

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := ((Emb.inl : Emb UB (UB × Counters)).trans Emb.inr).trans uEmb.toEmb
abbrev EC : UEmb Counters (MT nD τ sig Unit (Elt F) ℕ UU ℕ) := countersEmb

abbrev 𝒱₀ : Variants := Variants.none

/-- Program `p` on device `c` runs to `Q`. -/
abbrev run (c : Dev nD) (p : P F) (Q : PUnit → sProp 𝕄) : sProp 𝕄 :=
  wp frame (wpE (defs₀ (F := F)) 𝒱₀ (c : Thread nD τ) none) Set.univ p Q

instance ER_landsIn : (ER : Emb UB 𝕄).LandsIn (upEmb : UEmb _ 𝕄) := by unfold ER; infer_instance

/-- What a device owes, whatever waits it has recorded. -/
def owe (c : Dev nD) (O : CellTallies nD τ sig Unit) : sProp 𝕄 := iprop(∃ W, owes (c : Thread nD τ) O W)

/-- A memref with some contents. -/
def some' (c : Dev nD) {sp : Space} {s : Shape} {e : EltTy} (m : Memref sig .tc sp s e) : sProp 𝕄 :=
  iprop(∃ X, owns (c : Thread nD τ) m fullShare X)

/-- A device's own DMA semaphore at zero. -/
abbrev sem0 (c : Dev nD) (s : DmaSem sig) : sProp 𝕄 := semVal ((c : Thread nD τ), SemLoc.dma s) 0

/-- A copy of device `c` in flight on its semaphore `s`: `N` units to come, and then `D`. -/
abbrev flight (c : Dev nD) (s : DmaSem sig) (N : ℕ) (D : sProp 𝕄) : sProp 𝕄 :=
  Flight EC (c : Thread nD τ) (SemLoc.dma s) () N D

variable (c : Dev nD)

/-- The elements of a memref, held at a buffer that reads as `X` through it. -/
theorem owns_intro {sp : Space} {s : Shape} {e : EltTy} (m : Memref sig .tc sp s e) (q : PosShare TreeShare) {X : s.Idx → Elt F e}
    {f : Buf (Elt F) (m.view.loc (c : Thread nD τ))} (h : m.view.read (Elt F) f = X) :
    (m.view.loc (c : Thread nD τ) ↦[m.view.set]{q} f : sProp 𝕄) ⊢ owns (c : Thread nD τ) m q X := by
  unfold owns
  iintro H
  iexists f
  isplitr; · ipureintro; exact h
  iexact H

/-- A copy within the device: from its source, its destination and its semaphore at zero to the copy in flight, which
    brings the destination with the source's contents, and the source. -/
theorem run_copy {sp sp' : Space} {s : Shape} {e : EltTy} (src : Memref sig .tc sp s e) (dst : Memref sig .tc sp' s e) (sm : DmaSem sig)
    {hsrc : src.view.WordExact} {hdst : dst.view.WordExact}
    {hsem : DmaTarget.Typed (nD := nD) (τ := τ) (p := .tc) sp (.dma sm) (.here dst)} (hs : 0 < s.numel)
    (q : PosShare TreeShare) (X : s.Idx → Elt F e) (K : P F) (Q : PUnit → sProp 𝕄) :
    iprop(owns (c : Thread nD τ) src q X ∗ some' c dst ∗ sem0 c sm)
      ⊢ iprop((flight c sm dst.view.dmaCredit iprop(owns (c : Thread nD τ) dst fullShare X ∗ owns (c : Thread nD τ) src q X) -∗ run c K Q)
        -∗ run c (.op (.enqueueDma src (.here dst) (.dma sm) hsrc hdst hsem) fun _ => K) Q) := by
  unfold some' owns
  iintro ⟨⟨%f, %hf, Hs⟩, ⟨%Y, %g, %hg, Hd⟩, Hv⟩ Hk
  iapply (wp_dmaLocal EC 𝒱₀ (c : Thread nD τ) none (via := .same) () dst.view.dmaCredit rfl (View.dmaCredit_pos _ hs) (Finset.Subset.refl _)) $$ [Hs Hd Hv]
  · isplitl [Hs]; · iexact Hs
    isplitl [Hd]; · iexact Hd
    iexact Hv
  iintro HF
  iapply Hk
  iapply (Flight_mono EC (c : Thread nD τ) (BIClass.sep_mono
    (owns_intro c dst fullShare ((View.read_write_univ (v := dst.view) (Val := Elt F) _ _).trans hf)) (owns_intro c src q hf))) $$ HF

/-- The wait for a copy in flight. -/
theorem run_wait {sp sp' : Space} {s s' : Shape} {e e' : EltTy} (sm : DmaSem sig) (srcw : Memref sig .tc sp' s' e') (dstw : Memref sig .tc sp s e)
    {hsrc : srcw.view.WordExact} {hdst : dstw.view.WordExact} {N : ℕ} (hN : dstw.view.dmaCredit = N) (D : sProp 𝕄)
    (O : CellTallies nD τ sig Unit) (K : P F) (Q : PUnit → sProp 𝕄) :
    iprop(flight c sm N D ∗ owe c O ∗ MayWait (c : Thread nD τ) (.dma sm) () O)
      ⊢ iprop((iprop(D ∗ sem0 c sm ∗ owe c O) -∗ run c K Q)
        -∗ run c (.op (.waitDma2 sm srcw dstw hsrc hdst) fun _ => K) Q) := by
  unfold owe
  iintro ⟨HF, ⟨%W, HO⟩, HM⟩ Hk
  iapply (wp_waitLocalO EC 𝒱₀ (c : Thread nD τ) none () hN) $$ [HF HO HM]
  · isplitl [HF]; · iexact HF
    isplitl [HO]; · iexact HO
    iexact HM
  iintro ⟨HD, Hv, HO⟩
  iapply Hk
  isplitl [HD]; · iexact HD
  isplitl [Hv]; · iexact Hv
  iexists _; iexact HO

/-- A copy to another device: its source comes back by this device's semaphore, and its landing pays a duty of the
    receiving cell, whose payload is the destination with the source's contents. -/
theorem run_send {sp sp' : Space} {s : Shape} {e : EltTy} (Rd : Schedule (GSem nD τ sig) Bool 𝕄) (κ : ℕ)
    [∀ g r d, Storable (upEmb : UEmb _ 𝕄) (Rd.payload g r d)]
    (c' : Dev nD) (src : Memref sig .tc sp s e) (dst : Memref sig .tc sp' s e) (sS sR : DmaSem sig)
    {hsc : dst.view.ref.isScScratch = false} {hsrc : src.view.WordExact} {hdst : dst.view.WordExact}
    {hsem : DmaTarget.Typed (nD := nD) (τ := τ) (p := .tc) sp (.dma sR) (.remote (Dev.tc c') dst (.dma sS) hsc)} (hs : 0 < s.numel)
    {N : ℕ} (hN : dst.view.dmaCredit = N)
    (q : PosShare TreeShare) (X : s.Idx → Elt F e) (d : Bool)
    (hd : d ∈ Rd.duties ((c' : Thread nD τ), .dma sR) 0) (hA : Rd.amount ((c' : Thread nD τ), .dma sR) 0 d = N)
    (hpay : (owns (c' : Thread nD τ) dst fullShare X : sProp 𝕄) ⊢ Rd.payload ((c' : Thread nD τ), .dma sR) 0 d)
    {O₀ : CellTallies nD τ sig Unit} (O : CellTallies nD τ sig Unit) (hO : O₀ = O + tallyAt ((c' : Thread nD τ), .dma sR) () N)
    (K : P F) (Q : PUnit → sProp 𝕄) :
    iprop(owns (c : Thread nD τ) src q X ∗ some' c' dst ∗ sem0 c sS ∗ owe c O₀
        ∗ cellInv ER Rd κ ((c' : Thread nD τ), .dma sR) ∗ dutyTok ER ((c' : Thread nD τ), .dma sR) 0 d ∗ reached ER ((c' : Thread nD τ), .dma sR) 0)
      ⊢ iprop((iprop(flight c sS N (owns (c : Thread nD τ) src q X) ∗ owe c O) -∗ run c K Q)
        -∗ run c (.op (.enqueueDma src (.remote (Dev.tc c') dst (.dma sS) hsc) (.dma sR) hsrc hdst hsem) fun _ => K) Q) := by
  have hN0 : 0 < N := hN ▸ View.dmaCredit_pos _ hs
  have hN' : dst.view.amount (SemLoc.dma sR) = N := hN
  unfold some' owe
  unfold owns
  iintro ⟨⟨%f, %hf, Hs⟩, ⟨%Y, %g, %hg, Hd⟩, Hv, ⟨%W, HO⟩, Hinv, Htok, Hr⟩ Hk
  imod (flight_alloc EC hN0 iprop(src.view.loc (c : Thread nD τ) ↦[src.view.set]{q} f) (g := ((c : Thread nD τ), SemLoc.dma sS))) $$ Hv
    with ⟨%γ, %δ, %ι, #Hfl, Hγ, Hδ⟩
  iapply (wp_enqueueDma_remote_pointsTo 𝒱₀ (c : Thread nD τ) none Set.univ (c' := (c' : Thread nD τ)) () () O N hN' hO) $$ [Hs Hd HO] [Hγ] [Hinv Htok Hr]
  · isplitl [Hs]; · iexact Hs
    isplitl [Hd]; · iexact Hd
    iexact HO
  · iapply (flight_creditUpdate EC (δ := δ))
    isplitr; · iexact Hfl
    iexact Hγ
  · subst hA
    iapply (land_credit ER Rd hd (BIBase.Entails.trans
      (owns_intro c' dst fullShare ((View.read_write_univ (v := dst.view) (Val := Elt F) _ _).trans hf)) hpay)) $$ [Hinv Htok Hr]
    · isplitl [Hinv]; · iexact Hinv
      isplitl [Htok] <;> iassumption
  iintro ⟨Hcr, HO⟩
  iapply Hk
  isplitl [Hδ Hcr]
  · iapply (Flight_mono EC (c : Thread nD τ) (owns_intro c src q hf))
    iapply (flight_intro EC (c : Thread nD τ) (κ := ι))
    isplitr; · iexact Hfl
    isplitl [Hδ] <;> iassumption
  · iexists W; iexact HO

/-- The load of a whole slot of a buffer, the slot held as a memref squeezed out of it. -/
theorem run_load {cs : CoreSpace} {s s' : Shape} {e : EltTy} (m : Memref sig .tc cs s e) (r : Rect s) (hr : ∀ a, r.stride a = 1) (hs : r.shape.Squeezes s')
    {hl : m.view.LoadsAt r.toLoadRect} (hc' : r.shape.ShapeCasts s') (hc : s'.ShapeCasts r.shape) (q : PosShare TreeShare) (X : s'.Idx → Elt F e)
    (K : (r.shape.Idx → Elt F e) → P F) (Q : PUnit → sProp 𝕄) :
    (owns (c : Thread nD τ) ((m.slice r hr).squeeze s' hs) q X : sProp 𝕄)
      ⊢ iprop(((owns (c : Thread nD τ) ((m.slice r hr).squeeze s' hs) q X) -∗ run c (K (shapeCast r.shape X hc)) Q)
        -∗ run c (.op (.load m r.toLoadRect hl) K) Q) := by
  unfold owns
  iintro ⟨%f, %hf, Hs⟩ Hk
  have hv : m.view.readAt (Elt F) r.toLoadRect f = shapeCast r.shape X hc := by
    subst hf
    exact (shapeCast_shapeCast (t := s') (s := r.shape) ((m.view.slice r).read (Elt F) f) hc' hc).symm
  rw [← hv]
  iapply (wp_load 𝒱₀ (c : Thread nD τ) none Set.univ (m := m) (r := r.toLoadRect) (S := ((m.slice r hr).squeeze s' hs).view.set) ?_) $$ Hs
  · exact (View.set_slice m.view r).ge.trans (View.set_reshape (m.view.slice r) _).ge
  iintro Hs
  iapply Hk
  iexists f
  isplitr; · ipureintro; exact hf
  iexact Hs

/-- The store of a whole slot of a buffer. -/
theorem run_store {cs : CoreSpace} {s s' : Shape} {e : EltTy} (m : Memref sig .tc cs s e) (r : Rect s) (hr : ∀ a, r.stride a = 1) (hs : r.shape.Squeezes s')
    (v : r.shape.Idx → Elt F e)
    {hx : (m.access r).Stores Finset.univ} {hm : (Finset.univ : Finset r.shape.Idx) = Finset.univ ∨ ∀ a, r.stride a = 1}
    (hc : r.shape.ShapeCasts s') (K : P F) (Q : PUnit → sProp 𝕄) :
    (some' c ((m.slice r hr).squeeze s' hs) : sProp 𝕄)
      ⊢ iprop(((owns (c : Thread nD τ) ((m.slice r hr).squeeze s' hs) fullShare (shapeCast s' v hc)) -∗ run c K Q)
        -∗ run c (.op (.store m r v Finset.univ hx hm) fun _ => K) Q) := by
  unfold some' owns
  iintro ⟨%Y, %f, %hf, Hs⟩ Hk
  iapply (wp_store 𝒱₀ (c : Thread nD τ) none Set.univ (m := m) (r := r) (S := ((m.slice r hr).squeeze s' hs).view.set) ?_) $$ Hs
  · exact (View.set_reshape (m.view.slice r) _).ge
  iintro Hs
  iapply Hk
  iexists _
  isplitr
  rotate_left
  · iexact Hs
  · ipureintro
    funext j
    exact congrFun (View.read_write_univ (v := m.access r) (Val := Elt F) f v) _

/-- A slot held whole is two half shares of it, -/
theorem owns_halve {sp : Space} {s : Shape} {e : EltTy} (m : Memref sig .tc sp s e) (X : s.Idx → Elt F e) :
    (owns (c : Thread nD τ) m fullShare X : sProp 𝕄)
      ⊢ iprop(owns (c : Thread nD τ) m fullShare.left X ∗ owns (c : Thread nD τ) m fullShare.right X) := by
  unfold owns
  iintro ⟨%f, %hf, H⟩
  ihave H' := (pointsTo_share fullShare.mem_left_op_right).1 $$ H
  icases H' with ⟨H1, H2⟩
  isplitl [H1]
  · iexists f; isplitr; · ipureintro; exact hf
    iexact H1
  · iexists f; isplitr; · ipureintro; exact hf
    iexact H2

/-- and two half shares of it are the slot held whole. -/
theorem owns_unhalve {sp : Space} {s : Shape} {e : EltTy} (m : Memref sig .tc sp s e) (X : s.Idx → Elt F e) :
    iprop(owns (c : Thread nD τ) m fullShare.left X ∗ owns (c : Thread nD τ) m fullShare.right X)
      ⊢ (owns (c : Thread nD τ) m fullShare X : sProp 𝕄) := by
  unfold owns
  iintro ⟨⟨%f, %hf, H1⟩, %g, %hg, H2⟩
  icombine H1 H2 as H
  ihave %hag := pointsTo_agree $$ H
  icases H with ⟨H1, H2⟩
  ihave H3 := (Entails.of_eq (pointsTo_congr (f := g) (g := f) fun i hi => ((hag i (Finset.mem_inter.mpr ⟨hi, hi⟩)).1).symm)) $$ H2
  icombine H1 H3 as H
  iexists f
  isplitr; · ipureintro; exact hf
  iexact H

/-- A memref held at some contents. -/
theorem owns_some {sp : Space} {s : Shape} {e : EltTy} (m : Memref sig .tc sp s e) (X : s.Idx → Elt F e) :
    (owns (c : Thread nD τ) m fullShare X : sProp 𝕄) ⊢ some' c m := by
  unfold some'
  iintro H
  iexists X
  iexact H

instance some'_storable {sp : Space} {s : Shape} {e : EltTy} (m : Memref sig .tc sp s e) :
    Storable (upEmb : UEmb _ 𝕄) (some' (F := F) c m) := by unfold some'; infer_instance

end Cert.KernelIdeal.Norm
-- ==== Proof.KernelIdeal.Protocol.lean ====
/- The protocol. Device `c` has an x-neighbour and a y-neighbour (`nb false c`, `nb true c`), and of each sixteen
   chunks arrive, chunk `k` in a slot of its own and on a semaphore of its own.

   * BARRIER. Each device signals one unit to both neighbours' barrier semaphore and waits for two. What the signal of
     neighbour `b` hands `c` is the neighbour's sixteen slots, which `c` will fill: no copy starts before it.
   * ARRIVAL of chunk `k`. Its cell has one duty, paid by the landing of the neighbour's copy, and hands the slot
     over with its contents: for `b = false` the neighbour's rounded partial sums of the chunk, for `b = true` the
     neighbour's finished chunk.
   * Every other copy is local to its device, or it is the leaving end of a copy; each has a semaphore that is zero
     before it starts and after it was waited for.

   A device waits at a cell only below the cells that it still has to pay: the barrier is at level 1, the arrival of
   chunk `k` from the x-neighbour at `2 k + 2` and from the y-neighbour at `2 k + 3`, all else at 0. -/
module

public import proofs.«01_k».proof.Proof.KernelIdeal.Ops

@[expose] public section

noncomputable section

namespace Cert.KernelIdeal.Norm

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Neighbours, slots and cells -/

/-- The x-neighbour (`false`) and the y-neighbour (`true`). -/
def nb : Bool → Dev nD → Dev nD
  | false => xDev
  | true => yDev

theorem xDev_val (c : Dev nD) : (xDev c).val = (4 * ((c.val / 4) % 2) + (c.val % 4) + 8) - 8 * (c.val / 8) := k0_dev1_eq c
theorem yDev_val (c : Dev nD) : (yDev c).val = (8 * (c.val / 8) + (c.val % 4) + 4) - 4 * ((c.val / 4) % 2) := k0_dev2_eq c

/-- Neighbourhood is mutual. -/
theorem nb_nb (b : Bool) (c : Dev nD) : nb b (nb b c) = c := by
  have h : c.val < 16 := c.isLt
  apply Fin.ext
  cases b
  · show (xDev (xDev c)).val = c.val
    rw [xDev_val, xDev_val]; omega
  · show (yDev (yDev c)).val = c.val
    rw [yDev_val, yDev_val]; omega

/-- The neighbour in a direction, as a permutation of the devices. -/
def nbEquiv (b : Bool) : Dev nD ≃ Dev nD := ⟨nb b, nb b, nb_nb b, nb_nb b⟩

/-- The slot that chunk `k` arrives in, -/
def rb : Bool → Fin 16 → Memref sig .tc .vmem S128x4096 .bf16
  | false => xr
  | true => yr

/-- and its semaphore. -/
def rbSem : Bool → Fin 16 → DmaSem sig
  | false => xrSem
  | true => yrSem

/-- The semaphores of the protocol: the barrier, and an arrival for every direction and chunk. -/
def csem : Option (Bool × Fin 16) → SemLoc sig
  | none => .reg barS
  | some (b, k) => .dma (rbSem b k)

abbrev cell (c : Dev nD) (i : Option (Bool × Fin 16)) : GSem nD τ sig := ((c : Thread nD τ), csem i)
abbrev barCell (c : Dev nD) : GSem nD τ sig := ((c : Thread nD τ), .reg barS)
abbrev recvCell (b : Bool) (c : Dev nD) (k : Fin 16) : GSem nD τ sig := ((c : Thread nD τ), .dma (rbSem b k))

/-- Which of the protocol's semaphores a semaphore is. -/
def dec : SemLoc sig → Option (Option (Bool × Fin 16))
  | .reg s => if s = barS then some none else none
  | .dma s =>
    if h : 15 ≤ s.val ∧ s.val < 31 then some (some (false, ⟨s.val - 15, by omega⟩))
    else if h : 33 ≤ s.val ∧ s.val < 49 then some (some (true, ⟨s.val - 33, by omega⟩))
    else none

theorem dec_bar : dec (.reg barS) = some none := by unfold dec; exact if_pos rfl
theorem dec_recv (b : Bool) (k : Fin 16) : dec (.dma (rbSem b k)) = some (some (b, k)) := by revert b k; decide
theorem dec_csem (i : Option (Bool × Fin 16)) : dec (csem i) = some i := by
  rcases i with _ | ⟨b, k⟩
  · exact dec_bar
  · exact dec_recv b k

theorem csem_injective : Function.Injective csem := fun i j h => by
  have := congrArg dec h
  rw [dec_csem, dec_csem] at this
  exact Option.some.inj this

theorem dec_pa : ∀ s, dec (.dma (paSem s)) = none := by decide
theorem dec_rs : ∀ s, dec (.dma (rsSem s)) = none := by decide
theorem dec_ob : ∀ s, dec (.dma (obSem s)) = none := by decide
theorem dec_yc : ∀ s, dec (.dma (ycSem s)) = none := by decide
theorem dec_xs : ∀ s, dec (.dma (xsSem s)) = none := by decide
theorem dec_ys : ∀ s, dec (.dma (ysSem s)) = none := by decide

/-- What a copy of one bf16 chunk pays. -/
def N : ℕ := (xr 0).view.dmaCredit
theorem N_pos : 0 < N := View.dmaCredit_pos _ (by decide)
theorem credit_rb (b : Bool) (k : Fin 16) : (rb b k).view.dmaCredit = N := by cases b <;> rfl
theorem credit_xs (s : Fin 4) : (xs s).view.dmaCredit = N := rfl
theorem credit_ob (s : Fin 2) : (ob s).view.dmaCredit = N := rfl

/-! ## Contents -/

variable (m : (ℓ : Loc nD τ sig) → Buf (Elt F) ℓ)

/-- Chunk `k` of device `c`'s partial sums, in the half that `c` finishes. -/
def pc (c : Dev nD) (k : Fin 16) : S128x4096.Idx → Elt F .f32 := (paSrc c k).view.read (Elt F) (m ((c : Thread nD τ).loc main_arg0))
/-- Chunk `k` of the residual, as device `c` holds it. -/
def rc (c : Dev nD) (k : Fin 16) : S128x4096.Idx → Elt F .f32 := (rsSrc c k).view.read (Elt F) (m ((c : Thread nD τ).loc main_arg1))
/-- gamma, as device `c` holds it in its window. -/
def gm (c : Dev nD) : S4096.Idx → Elt F .f32 :=
  (win0_0.blk (0 : Fin 1)).view.read (Elt F) (m ((c : Thread nD τ).loc main_arg2))

/-- A chunk under the shape of the slots that hold it, -/
abbrev up {e : EltTy} (X : S128x4096.Idx → Elt F e) : S1x128x4096.Idx → Elt F e := shapeCast S1x128x4096 X shapeCasts_S128x4096_S1x128x4096
/-- and back. -/
abbrev dn {e : EltTy} (X : S1x128x4096.Idx → Elt F e) : S128x4096.Idx → Elt F e := shapeCast S128x4096 X shapeCasts_S1x128x4096_S128x4096

/-- What device `c` sends of chunk `k` to its x-neighbour. -/
def xval (c : Dev nD) (k : Fin 16) : S128x4096.Idx → Elt F .bf16 := dn (castPay (up (pc m c k)))
/-- The finished chunk `k` of device `c`. -/
def oval (c : Dev nD) (k : Fin 16) : S128x4096.Idx → Elt F .bf16 :=
  dn (normPay (gammaRow (gm m c)) (sumPay (up (pc m c k)) (up (xval m (nb false c) k)) (up (rc m c k))))

/-- What arrives at device `c` as chunk `k` of a direction. -/
def rval : Bool → Dev nD → Fin 16 → S128x4096.Idx → Elt F .bf16
  | false, c, k => xval m (nb false c) k
  | true, c, k => oval m (nb true c) k

/-! ## The schedule -/

/-- What neighbour `b`'s signal hands device `c`: the neighbour's slots. -/
def barPay (b : Bool) (c : Dev nD) : sProp 𝕄 := bigSep Finset.univ fun k : Fin 16 => some' (nb b c) (rb b k)
/-- What the arrival of chunk `k` hands device `c`. -/
def recvPay (b : Bool) (c : Dev nD) (k : Fin 16) : sProp 𝕄 := owns (c : Thread nD τ) (rb b k) fullShare (rval m b c k)

instance barPay_storable (b : Bool) (c : Dev nD) : Storable (upEmb : UEmb _ 𝕄) (barPay (F := F) b c) := by unfold barPay; infer_instance
instance recvPay_storable (b : Bool) (c : Dev nD) (k : Fin 16) : Storable (upEmb : UEmb _ 𝕄) (recvPay m b c k) := by unfold recvPay; infer_instance

def dutiesOf : Option (Option (Bool × Fin 16)) → Finset Bool
  | none => ∅
  | some none => Finset.univ
  | some (some _) => {false}
def amountFor : Option (Option (Bool × Fin 16)) → ℕ
  | some (some _) => N
  | _ => 1
def payloadOf (c : Dev nD) (d : Bool) : Option (Option (Bool × Fin 16)) → sProp 𝕄
  | none => iprop(emp)
  | some none => barPay d c
  | some (some (b, k)) => recvPay m b c k
def levelOf : Option (Option (Bool × Fin 16)) → ℕ
  | none => 0
  | some none => 1
  | some (some (false, k)) => 2 * k.val + 2
  | some (some (true, k)) => 2 * k.val + 3

/-- One round: a barrier has a duty for each neighbour, an arrival one duty. -/
def Rd : Schedule (GSem nD τ sig) Bool 𝕄 where
  duties g r := if r = 0 ∧ g.1.2 = .tc then dutiesOf (dec g.2) else ∅
  unitless _ := False
  amount g _ _ := amountFor (dec g.2)
  payload g _ d := payloadOf m g.1.1 d (dec g.2)
  amount_pos g _ _ _ := by
    rcases dec g.2 with _ | _ | _
    · exact Nat.one_pos
    · exact Nat.one_pos
    · exact N_pos

instance Rd_storable (g : GSem nD τ sig) (r : ℕ) (d : Bool) : Storable (upEmb : UEmb _ 𝕄) ((Rd m).payload g r d) := by
  show Storable (upEmb : UEmb _ 𝕄) (payloadOf m g.1.1 d (dec g.2))
  rcases dec g.2 with _ | _ | ⟨b, k⟩ <;> unfold payloadOf <;> infer_instance

section
variable (c : Dev nD) (b : Bool) (k : Fin 16)

theorem duties_bar : (Rd m).duties (barCell c) 0 = Finset.univ := by
  show (if (0 : ℕ) = 0 ∧ (c : Thread nD τ).2 = .tc then dutiesOf (dec (.reg barS)) else ∅) = _
  rw [if_pos ⟨rfl, rfl⟩, dec_bar]; rfl
theorem duties_recv : (Rd m).duties (recvCell b c k) 0 = {false} := by
  show (if (0 : ℕ) = 0 ∧ (c : Thread nD τ).2 = .tc then dutiesOf (dec (.dma (rbSem b k))) else ∅) = _
  rw [if_pos ⟨rfl, rfl⟩, dec_recv]; rfl
theorem duties_later (g : GSem nD τ sig) (r : ℕ) (h : 1 ≤ r) : (Rd m).duties g r = ∅ := if_neg fun h' => by omega
theorem amount_bar (d : Bool) : (Rd m).amount (barCell c) 0 d = 1 := by
  show amountFor (dec (.reg barS)) = _
  rw [dec_bar]; rfl
theorem amount_recv (d : Bool) : (Rd m).amount (recvCell b c k) 0 d = N := by
  show amountFor (dec (.dma (rbSem b k))) = _
  rw [dec_recv]; rfl
theorem payload_bar (d : Bool) : (Rd m).payload (barCell c) 0 d = barPay d c := by
  show payloadOf m c d (dec (.reg barS)) = _
  rw [dec_bar]; rfl
theorem payload_recv (d : Bool) : (Rd m).payload (recvCell b c k) 0 d = recvPay m b c k := by
  show payloadOf m c d (dec (.dma (rbSem b k))) = _
  rw [dec_recv]; rfl
theorem expect_bar : (Rd m).expect (barCell c) 0 = 2 := by
  unfold Schedule.expect Schedule.amountOf
  rw [duties_bar, Finset.sum_congr rfl fun d _ => amount_bar m c d, Finset.sum_const, Finset.card_univ, Fintype.card_bool, smul_eq_mul]
theorem expect_recv : (Rd m).expect (recvCell b c k) 0 = N := by
  unfold Schedule.expect Schedule.amountOf
  rw [duties_recv, Finset.sum_singleton, amount_recv]
theorem rest_recv : bigSep ((Rd m).duties (recvCell b c k) 0 \ ∅) (fun d => (Rd m).payload (recvCell b c k) 0 d) = recvPay m b c k := by
  rw [Finset.sdiff_empty, duties_recv, bigSep_singleton, payload_recv]
theorem rest_bar : bigSep ((Rd m).duties (barCell c) 0 \ ∅) (fun d => (Rd m).payload (barCell c) 0 d) = iprop(barPay false c ∗ barPay true c) := by
  rw [Finset.sdiff_empty, duties_bar, bigSep_univ_eq_bigSepL [false, true] (by decide) (by decide), bigSepL_cons_cons, bigSepL_singleton,
    payload_bar, payload_bar]
  rfl
end

/-! ## What a device owes, and the levels -/

/-- The copies to the neighbour in a direction from chunk `n` on. -/
def toGo (b : Bool) (c : Dev nD) (n : ℕ) : CellTallies nD τ sig Unit :=
  ∑ j ∈ Finset.univ.filter (fun j : Fin 16 => n ≤ j.val), tallyAt (recvCell b (nb b c) j) () N

/-- What device `c` owes once it has started the copies of the first `x` chunks to its x-neighbour and of the first
    `y` to its y-neighbour. -/
def owed (c : Dev nD) (x y : ℕ) : CellTallies nD τ sig Unit := toGo false c x + toGo true c y

theorem toGo_take (b : Bool) (c : Dev nD) (k : Fin 16) :
    toGo b c k.val = toGo b c (k.val + 1) + tallyAt (recvCell b (nb b c) k) () N := by
  unfold toGo
  rw [← Finset.add_sum_erase _ _ (show k ∈ Finset.univ.filter (fun j : Fin 16 => k.val ≤ j.val) by simp), add_comm]
  congr 1
  refine Finset.sum_congr ?_ fun _ _ => rfl
  ext j
  simp only [Finset.mem_erase, Finset.mem_filter, Finset.mem_univ, _root_.true_and, ne_eq, Fin.ext_iff]
  omega

theorem toGo_out (b : Bool) (c : Dev nD) (n : ℕ) (h : 16 ≤ n) : toGo b c n = 0 := by
  unfold toGo
  refine Finset.sum_eq_zero fun j hj => ?_
  have := j.isLt
  have := (Finset.mem_filter.mp hj).2
  omega

theorem owed_x (c : Dev nD) (k : Fin 16) (y : ℕ) :
    owed c k.val y = owed c (k.val + 1) y + tallyAt (recvCell false (nb false c) k) () N := by
  unfold owed; rw [toGo_take false, add_right_comm]

theorem owed_y (c : Dev nD) (k : Fin 16) (x : ℕ) :
    owed c x k.val = owed c x (k.val + 1) + tallyAt (recvCell true (nb true c) k) () N := by
  unfold owed; rw [toGo_take true, add_assoc]

theorem owed_out (c : Dev nD) (x x' y : ℕ) (h : 16 ≤ x) (h' : 16 ≤ x') : owed c x y = owed c x' y := by
  unfold owed; rw [toGo_out _ _ _ h, toGo_out _ _ _ h']

theorem owed_end (c : Dev nD) (x y : ℕ) (h : 16 ≤ x) (h' : 16 ≤ y) : owed c x y = 0 := by
  unfold owed; rw [toGo_out _ _ _ h, toGo_out _ _ _ h', add_zero]

theorem toGo_pos {b : Bool} {c : Dev nD} {n : ℕ} {g : GSem nD τ sig} {u : Unit} (h : 0 < toGo b c n g u) :
    ∃ j : Fin 16, n ≤ j.val ∧ g = recvCell b (nb b c) j := by
  unfold toGo at h
  rw [Finset.sum_apply, Finsupp.finset_sum_apply] at h
  obtain ⟨j, hj, hp⟩ := Finset.exists_ne_zero_of_sum_ne_zero h.ne'
  rw [tallyAt_apply] at hp
  refine ⟨j, (Finset.mem_filter.mp hj).2, ?_⟩
  by_contra hn
  exact hp (if_neg fun h => hn h.1)

theorem owed_pos {c : Dev nD} {x y : ℕ} {g : GSem nD τ sig} {u : Unit} (h : 0 < owed c x y g u) :
    ∃ j : Fin 16, (x ≤ j.val ∧ g = recvCell false (nb false c) j) ∨ (y ≤ j.val ∧ g = recvCell true (nb true c) j) := by
  unfold owed at h
  rw [Pi.add_apply, Finsupp.add_apply] at h
  rcases Nat.eq_zero_or_pos (toGo false c x g u) with h0 | h0
  · rw [h0, Nat.zero_add] at h
    obtain ⟨j, hj⟩ := toGo_pos h
    exact ⟨j, Or.inr hj⟩
  · obtain ⟨j, hj⟩ := toGo_pos h0
    exact ⟨j, Or.inl hj⟩

def L (g : GSem nD τ sig) : Finset Unit := if g.1.2 = .tc then {()} else ∅
def lv (g : GSem nD τ sig) (_ : Unit) : ℕ := levelOf (dec g.2)

theorem L_of_ne (g : GSem nD τ sig) (h : g.1.2 ≠ .tc) : L g = ∅ := if_neg h
theorem L_tc (c : Dev nD) (sm : SemLoc sig) : L ((c : Thread nD τ), sm) = {()} := if_pos rfl

/-- A device may wait at a cell below all that it owes. -/
theorem mayWait (c : Dev nD) (sm : SemLoc sig) (x y : ℕ) (hx : 16 ≤ x ∨ levelOf (dec sm) < 2 * x + 2) (hy : 16 ≤ y ∨ levelOf (dec sm) < 2 * y + 3) :
    (levAts L lv : sProp 𝕄) ⊢ MayWait (c : Thread nD τ) sm () (owed c x y) :=
  MayOwe.of_cut (L := L) (lev := lv) (levelOf (dec sm)) (fun p hp => by rw [Finset.mem_singleton.mp hp, L_tc]; exact Finset.mem_singleton_self _)
    (fun g u hg => by
      obtain ⟨j, ⟨-, rfl⟩ | ⟨-, rfl⟩⟩ := owed_pos hg <;> rw [L_tc] <;> exact Finset.mem_singleton_self _)
    (fun p hp => by rw [Finset.mem_singleton.mp hp]; exact le_rfl)
    (fun g u hg => by
      obtain ⟨j, ⟨h, rfl⟩ | ⟨h, rfl⟩⟩ := owed_pos hg
      · have := j.isLt
        show _ < levelOf (dec (.dma (rbSem false j)))
        rw [dec_recv]
        show _ < 2 * j.val + 2
        omega
      · have := j.isLt
        show _ < levelOf (dec (.dma (rbSem true j)))
        rw [dec_recv]
        show _ < 2 * j.val + 3
        omega)

/-- At the semaphore of a local copy it always may. -/
theorem mayWait_local (c : Dev nD) (s : DmaSem sig) (h : dec (.dma s) = none) (x y : ℕ) :
    (levAts L lv : sProp 𝕄) ⊢ MayWait (c : Thread nD τ) (.dma s) () (owed c x y) :=
  mayWait c (.dma s) x y (.inr (by rw [h]; exact Nat.succ_pos _)) (.inr (by rw [h]; exact Nat.succ_pos _))

end Cert.KernelIdeal.Norm
-- ==== Proof.KernelIdeal.Families.lean ====
/- Families of sixteen resources, one per chunk, of which a loop takes one from the front in every turn (`todo`) and
   puts one back at the end (`done`). A family may run `d` turns late: what it gives or takes at `n` (`due d n`) is the
   member `n - d`, and nothing where there is no such member. -/
module

public import proofs.«01_k».proof.Proof.KernelIdeal.Ops

@[expose] public section

noncomputable section

namespace Cert.KernelIdeal.Norm

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-- The member whose turn is `n`, if there is one. -/
def due (d n : ℕ) (A : Fin 16 → sProp 𝕄) : sProp 𝕄 := if h : d ≤ n ∧ n - d < 16 then A ⟨n - d, h.2⟩ else iprop(emp)
/-- The members whose turn is `n` or later. -/
def todo (d n : ℕ) (A : Fin 16 → sProp 𝕄) : sProp 𝕄 := bigSep (Finset.univ.filter fun j : Fin 16 => n ≤ j.val + d) A
/-- The members whose turn is before `n`. -/
def done (d n : ℕ) (A : Fin 16 → sProp 𝕄) : sProp 𝕄 := bigSep (Finset.univ.filter fun j : Fin 16 => j.val + d < n) A

theorem due_at (d n : ℕ) (A : Fin 16 → sProp 𝕄) (k : Fin 16) (h : n = k.val + d) : due d n A = A k := by
  subst h
  unfold due
  rw [dif_pos ⟨Nat.le_add_left _ _, by have := k.isLt; omega⟩]
  congr 1
  exact Fin.ext (Nat.add_sub_cancel _ _)

theorem due_out (d n : ℕ) (A : Fin 16 → sProp 𝕄) (h : ¬ (d ≤ n ∧ n - d < 16)) : due d n A = iprop(emp) := by unfold due; exact dif_neg h

theorem todo_take (d n : ℕ) (A : Fin 16 → sProp 𝕄) : todo d n A = iprop(due d n A ∗ todo d (n + 1) A) := by
  unfold todo
  by_cases h : d ≤ n ∧ n - d < 16
  · rw [due_at d n A ⟨n - d, h.2⟩ (by simp only; omega),
      bigSep_erase (i := (⟨n - d, h.2⟩ : Fin 16)) (by simp only [Finset.mem_filter, Finset.mem_univ, _root_.true_and]; omega)]
    have e : (Finset.univ.filter fun j : Fin 16 => n ≤ j.val + d).erase ⟨n - d, h.2⟩
        = Finset.univ.filter fun j : Fin 16 => n + 1 ≤ j.val + d := by
      ext j
      simp only [Finset.mem_erase, Finset.mem_filter, Finset.mem_univ, _root_.true_and, ne_eq, Fin.ext_iff]
      omega
    rw [e]
    rfl
  · rw [due_out d n A h]
    refine Eq.trans ?_ (equiv_iff.mp BI.emp_sep).symm
    congr 1
    ext j
    have := j.isLt
    simp only [Finset.mem_filter, Finset.mem_univ, _root_.true_and]
    omega

theorem done_put (d n : ℕ) (A : Fin 16 → sProp 𝕄) : done d (n + 1) A = iprop(due d n A ∗ done d n A) := by
  unfold done
  by_cases h : d ≤ n ∧ n - d < 16
  · rw [due_at d n A ⟨n - d, h.2⟩ (by simp only; omega),
      bigSep_erase (i := (⟨n - d, h.2⟩ : Fin 16)) (by simp only [Finset.mem_filter, Finset.mem_univ, _root_.true_and]; omega)]
    have e : (Finset.univ.filter fun j : Fin 16 => j.val + d < n + 1).erase ⟨n - d, h.2⟩
        = Finset.univ.filter fun j : Fin 16 => j.val + d < n := by
      ext j
      simp only [Finset.mem_erase, Finset.mem_filter, Finset.mem_univ, _root_.true_and, ne_eq, Fin.ext_iff]
      omega
    rw [e]
    rfl
  · rw [due_out d n A h]
    refine Eq.trans ?_ (equiv_iff.mp BI.emp_sep).symm
    congr 1
    ext j
    have := j.isLt
    simp only [Finset.mem_filter, Finset.mem_univ, _root_.true_and]
    omega

theorem todo_all (d n : ℕ) (A : Fin 16 → sProp 𝕄) (h : n ≤ d) : todo d n A = bigSep Finset.univ A := by
  unfold todo
  congr 1
  ext j
  simp only [Finset.mem_filter, Finset.mem_univ, _root_.true_and, iff_true]
  omega

theorem todo_none (d n : ℕ) (A : Fin 16 → sProp 𝕄) (h : 16 + d ≤ n) : todo d n A = iprop(emp) := by
  unfold todo
  rw [show (Finset.univ.filter fun j : Fin 16 => n ≤ j.val + d) = ∅ from by
    ext j
    have := j.isLt
    simp only [Finset.mem_filter, Finset.mem_univ, _root_.true_and, Finset.notMem_empty, iff_false]
    omega]
  rfl

theorem done_none (d n : ℕ) (A : Fin 16 → sProp 𝕄) (h : n ≤ d) : done d n A = iprop(emp) := by
  unfold done
  rw [show (Finset.univ.filter fun j : Fin 16 => j.val + d < n) = ∅ from by
    ext j
    simp only [Finset.mem_filter, Finset.mem_univ, _root_.true_and, Finset.notMem_empty, iff_false]
    omega]
  rfl

theorem done_all (d n : ℕ) (A : Fin 16 → sProp 𝕄) (h : 16 + d ≤ n) : done d n A = bigSep Finset.univ A := by
  unfold done
  congr 1
  ext j
  have := j.isLt
  simp only [Finset.mem_filter, Finset.mem_univ, _root_.true_and, iff_true]
  omega

/-! ## The two conditionals of the turns -/

/-- A step at chunk `n`, proved where there is such a chunk, and trivial where there is none. -/
theorem run_when (c : Dev nD) (Q : PUnit → sProp 𝕄) (n : ℕ) (f : Fin 16 → P F → P F) (K : P F) {X Y : sProp 𝕄}
    (h : ∀ k : Fin 16, n = k.val → X ⊢ iprop((Y -∗ run c K Q) -∗ run c (f k K) Q))
    (h' : 16 ≤ n → X ⊢ Y) : X ⊢ iprop((Y -∗ run c K Q) -∗ run c (when n f K) Q) := by
  unfold when
  by_cases hn : n < 16
  · rw [dif_pos hn]
    exact h ⟨n, hn⟩ rfl
  · rw [dif_neg hn]
    iintro HX HK
    iapply HK
    iapply (h' (by omega)) $$ HX

/-- A step at the chunk `n` before `k`, likewise. -/
theorem run_back (c : Dev nD) (Q : PUnit → sProp 𝕄) (k : Fin 16) (n : ℕ) (f : Fin 16 → P F → P F) (K : P F) {X Y : sProp 𝕄}
    (h : ∀ j : Fin 16, j.val + n = k.val → X ⊢ iprop((Y -∗ run c K Q) -∗ run c (f j K) Q))
    (h' : k.val < n → X ⊢ Y) : X ⊢ iprop((Y -∗ run c K Q) -∗ run c (back k n f K) Q) := by
  unfold back
  by_cases hn : n ≤ k.val
  · rw [dif_pos hn]
    exact h ⟨k.val - n, _⟩ (by simp only; omega)
  · rw [dif_neg hn]
    iintro HX HK
    iapply HK
    iapply (h' (by omega)) $$ HX

end Cert.KernelIdeal.Norm
-- ==== Proof.KernelIdeal.Chunk.lean ====
/- The states that the buffers of a chunk go through, and what every operation of a chunk does to them. -/
module

public import proofs.«01_k».proof.Proof.KernelIdeal.Protocol
public import proofs.«01_k».proof.Proof.KernelIdeal.Families

@[expose] public section

set_option maxRecDepth 10000

noncomputable section

namespace Cert.KernelIdeal.Norm

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable (m : (ℓ : Loc nD τ sig) → Buf (Elt F) ℓ)

/-! ## What every device knows -/

/-- Every cell's invariant and that it has reached its round, -/
def records (κ : Dev nD × Option (Bool × Fin 16) → ℕ) : sProp 𝕄 :=
  bigSep Finset.univ fun ci : Dev nD × Option (Bool × Fin 16) =>
    iprop(cellInv ER (Rd m) (κ ci) (cell ci.1 ci.2) ∗ reached ER (cell ci.1 ci.2) 0)
/-- and the levels. -/
def ctx (κ : Dev nD × Option (Bool × Fin 16) → ℕ) : sProp 𝕄 := iprop(records m κ ∗ (levAts L lv : sProp 𝕄))

instance records_persistent (κ : Dev nD × Option (Bool × Fin 16) → ℕ) : Persistent (records m κ) := by unfold records; infer_instance
instance ctx_persistent (κ : Dev nD × Option (Bool × Fin 16) → ℕ) : Persistent (ctx m κ) := by unfold ctx; infer_instance

variable (κ : Dev nD × Option (Bool × Fin 16) → ℕ) (c : Dev nD)

theorem ctx_cell (i : Option (Bool × Fin 16)) :
    ctx m κ ⊢ iprop(cellInv ER (Rd m) (κ (c, i)) (cell c i) ∗ reached ER (cell c i) 0) := by
  unfold ctx records
  iintro ⟨H, -⟩
  iapply (show (bigSep Finset.univ (fun ci : Dev nD × Option (Bool × Fin 16) =>
    iprop(cellInv ER (Rd m) (κ ci) (cell ci.1 ci.2) ∗ reached ER (cell ci.1 ci.2) 0)) : sProp 𝕄) ⊢ _ from bigSep_elim (i := (c, i)) (Finset.mem_univ _)) $$ H

theorem ctx_lev : ctx m κ ⊢ (levAts L lv : sProp 𝕄) := by
  unfold ctx
  iintro ⟨-, H⟩
  iexact H

/-! ## States -/

/-- A ring of `r` slots whose states run `d` turns late: at `n` the state of chunk `n - d`, or of an idle slot. -/
def ringAt (r d : ℕ) [NeZero r] (A : Fin 16 → sProp 𝕄) (I : Fin r → sProp 𝕄) (n : ℕ) : sProp 𝕄 :=
  if h : d ≤ n ∧ n - d < 16 then A ⟨n - d, h.2⟩ else I (Fin.ofNat r n)

theorem ringAt_at {r d : ℕ} [NeZero r] {A : Fin 16 → sProp 𝕄} {I : Fin r → sProp 𝕄} (n : ℕ) (k : Fin 16) (h : n = k.val + d) :
    ringAt r d A I n = A k := by
  subst h
  unfold ringAt
  rw [dif_pos ⟨Nat.le_add_left _ _, by have := k.isLt; omega⟩]
  congr 1
  exact Fin.ext (Nat.add_sub_cancel _ _)

theorem ringAt_out {r d : ℕ} [NeZero r] {A : Fin 16 → sProp 𝕄} {I : Fin r → sProp 𝕄} (n : ℕ) (s : Fin r) (hs : s.val = n % r)
    (h : ¬ (d ≤ n ∧ n - d < 16)) : ringAt r d A I n = I s := by
  unfold ringAt
  rw [dif_neg h]
  congr 1
  exact Fin.ext hs.symm

def paRow (k : Fin 16) : sProp 𝕄 := owns (c : Thread nD τ) (paSrc c k) fullShare (pc m c k)
def rsRow (k : Fin 16) : sProp 𝕄 := owns (c : Thread nD τ) (rsSrc c k) fullShare (rc m c k)

def PaIdle (s : Fin 4) : sProp 𝕄 := iprop(some' c (pa s) ∗ sem0 c (paSem s))
def PaFlyK (k : Fin 16) : sProp 𝕄 :=
  flight c (paSem (s4 k)) (pa (s4 k)).view.dmaCredit iprop(owns (c : Thread nD τ) (pa (s4 k)) fullShare (pc m c k) ∗ paRow m c k)
def PaHeldK (k : Fin 16) : sProp 𝕄 := iprop(owns (c : Thread nD τ) (pa (s4 k)) fullShare (pc m c k) ∗ sem0 c (paSem (s4 k)))

def RsIdle (s : Fin 2) : sProp 𝕄 := iprop(some' c (rs s) ∗ sem0 c (rsSem s))
def RsFlyK (k : Fin 16) : sProp 𝕄 :=
  flight c (rsSem (s2 k)) (rs (s2 k)).view.dmaCredit iprop(owns (c : Thread nD τ) (rs (s2 k)) fullShare (rc m c k) ∗ rsRow m c k)
def RsHeldK (k : Fin 16) : sProp 𝕄 := iprop(owns (c : Thread nD τ) (rs (s2 k)) fullShare (rc m c k) ∗ sem0 c (rsSem (s2 k)))

def XsIdle (s : Fin 4) : sProp 𝕄 := iprop(some' c (xs s) ∗ sem0 c (xsSem s))
def XsFlyK (k : Fin 16) : sProp 𝕄 := flight c (xsSem (s4 k)) N (owns (c : Thread nD τ) (xs (s4 k)) fullShare (xval m c k))

def ObIdle (s : Fin 2) : sProp 𝕄 := iprop(some' c (ob s) ∗ sem0 c (obSem s) ∗ sem0 c (ysSem s))
def ownVal (k : Fin 16) : sProp 𝕄 := owns (c : Thread nD τ) (outOwn c k) fullShare (oval m c k)
def ObFlyK (k : Fin 16) : sProp 𝕄 :=
  iprop(flight c (obSem (s2 k)) (outOwn c k).view.dmaCredit iprop(ownVal m c k ∗ owns (c : Thread nD τ) (ob (s2 k)) fullShare.left (oval m c k))
    ∗ flight c (ysSem (s2 k)) N (owns (c : Thread nD τ) (ob (s2 k)) fullShare.right (oval m c k)))

def YcIdle (s : Fin 2) : sProp 𝕄 := sem0 c (ycSem s)
def otherVal (k : Fin 16) : sProp 𝕄 := owns (c : Thread nD τ) (outOther c k) fullShare (rval m true c k)
def YcFlyK (k : Fin 16) : sProp 𝕄 :=
  flight c (ycSem (s2 k)) (outOther c k).view.dmaCredit iprop(otherVal m c k ∗ owns (c : Thread nD τ) (yr k) fullShare (rval m true c k))

/-- What a copy to a neighbour takes: the neighbour's slot, and its duty there. -/
def pay (b : Bool) (k : Fin 16) : sProp 𝕄 :=
  iprop(some' (nb b c) (rb b k) ∗ dutyTok ER (recvCell b (nb b c) k) 0 false)
/-- What a device has of an arrival before it waits for it, -/
def inb (b : Bool) (k : Fin 16) : sProp 𝕄 := iprop(atPos ER (recvCell b c k) 0 ∅ 0 ∗ cred (tallyAt (recvCell b c k) () N))
/-- and after. -/
def got (b : Bool) (k : Fin 16) : sProp 𝕄 := iprop(owns (c : Thread nD τ) (rb b k) fullShare (rval m b c k) ∗ sem0 c (rbSem b k))

/-! ## Operations -/

variable (Q : PUnit.{1} → sProp (RM F)) (K : P F) (k : Fin 16) (x y : ℕ)

theorem numel_pos : 0 < S128x4096.numel := by decide

theorem l_paStart : iprop(PaIdle c (s4 k) ∗ paRow m c k) ⊢ iprop((PaFlyK m c k -∗ run c K Q) -∗ run c (paStart c k K) Q) := by
  unfold PaIdle PaFlyK paRow paStart
  iintro ⟨⟨Hd, Hv⟩, Hs⟩
  iapply (run_copy c (paSrc c k) (pa (s4 k)) (paSem (s4 k)) numel_pos fullShare (pc m c k) K Q)
  isplitl [Hs]; · iexact Hs
  isplitl [Hd] <;> iassumption

theorem l_rsStart : iprop(RsIdle c (s2 k) ∗ rsRow m c k) ⊢ iprop((RsFlyK m c k -∗ run c K Q) -∗ run c (rsStart c k K) Q) := by
  unfold RsIdle RsFlyK rsRow rsStart
  iintro ⟨⟨Hd, Hv⟩, Hs⟩
  iapply (run_copy c (rsSrc c k) (rs (s2 k)) (rsSem (s2 k)) numel_pos fullShare (rc m c k) K Q)
  isplitl [Hs]; · iexact Hs
  isplitl [Hd] <;> iassumption

/-- The wait for a local copy, whatever else is owed. -/
theorem run_wait' {sp sp' : Space} {s s' : Shape} {e e' : EltTy} (sm : DmaSem sig) (hsm : dec (.dma sm) = none)
    (srcw : Memref sig .tc sp' s' e') (dstw : Memref sig .tc sp s e)
    {hsrc : srcw.view.WordExact} {hdst : dstw.view.WordExact} {N : ℕ} (hN : dstw.view.dmaCredit = N) (D : sProp 𝕄) :
    iprop(ctx m κ ∗ flight c sm N D ∗ owe c (owed c x y))
      ⊢ iprop((iprop(D ∗ sem0 c sm ∗ owe c (owed c x y)) -∗ run c K Q)
        -∗ run c (.op (.waitDma2 sm srcw dstw hsrc hdst) fun _ => K) Q) := by
  iintro ⟨Hctx, HF, HO⟩
  iapply (run_wait c sm srcw dstw hN D (owed c x y) K Q)
  isplitl [HF]; · iexact HF
  isplitl [HO]; · iexact HO
  iapply (BIBase.Entails.trans (ctx_lev (F := F) m κ) (mayWait_local (F := F) c sm hsm x y)) $$ Hctx

/-- The waits for the copies of a chunk. -/
theorem w_pa (D : sProp 𝕄) : iprop(ctx m κ ∗ flight c (paSem (s4 k)) (pa (s4 k)).view.dmaCredit D ∗ owe c (owed c x y))
    ⊢ iprop((iprop(D ∗ sem0 c (paSem (s4 k)) ∗ owe c (owed c x y)) -∗ run c K Q) -∗ run c (paWait c k K) Q) :=
  run_wait' m κ c Q K x y (paSem (s4 k)) (dec_pa _) (paSrc c k) (pa (s4 k)) rfl D

theorem w_rs (D : sProp 𝕄) : iprop(ctx m κ ∗ flight c (rsSem (s2 k)) (rs (s2 k)).view.dmaCredit D ∗ owe c (owed c x y))
    ⊢ iprop((iprop(D ∗ sem0 c (rsSem (s2 k)) ∗ owe c (owed c x y)) -∗ run c K Q) -∗ run c (rsWait c k K) Q) :=
  run_wait' m κ c Q K x y (rsSem (s2 k)) (dec_rs _) (rsSrc c k) (rs (s2 k)) rfl D

theorem w_xs (D : sProp 𝕄) : iprop(ctx m κ ∗ flight c (xsSem (s4 k)) N D ∗ owe c (owed c x y))
    ⊢ iprop((iprop(D ∗ sem0 c (xsSem (s4 k)) ∗ owe c (owed c x y)) -∗ run c K Q) -∗ run c (xSent k K) Q) :=
  run_wait' m κ c Q K x y (xsSem (s4 k)) (dec_xs _) (xr k) (xs (s4 k)) rfl D

theorem w_ob (D : sProp 𝕄) : iprop(ctx m κ ∗ flight c (obSem (s2 k)) (outOwn c k).view.dmaCredit D ∗ owe c (owed c x y))
    ⊢ iprop((iprop(D ∗ sem0 c (obSem (s2 k)) ∗ owe c (owed c x y)) -∗ run c K Q) -∗ run c (obWait c k K) Q) :=
  run_wait' m κ c Q K x y (obSem (s2 k)) (dec_ob _) (ob (s2 k)) (outOwn c k) rfl D

theorem w_ys (D : sProp 𝕄) : iprop(ctx m κ ∗ flight c (ysSem (s2 k)) N D ∗ owe c (owed c x y))
    ⊢ iprop((iprop(D ∗ sem0 c (ysSem (s2 k)) ∗ owe c (owed c x y)) -∗ run c K Q) -∗ run c (ySent k K) Q) :=
  run_wait' m κ c Q K x y (ysSem (s2 k)) (dec_ys _) (yr k) (ob (s2 k)) rfl D

theorem w_yc (D : sProp 𝕄) : iprop(ctx m κ ∗ flight c (ycSem (s2 k)) (outOther c k).view.dmaCredit D ∗ owe c (owed c x y))
    ⊢ iprop((iprop(D ∗ sem0 c (ycSem (s2 k)) ∗ owe c (owed c x y)) -∗ run c K Q) -∗ run c (ycWait c k K) Q) :=
  run_wait' m κ c Q K x y (ycSem (s2 k)) (dec_yc _) (yr k) (outOther c k) rfl D

theorem l_paWait : iprop(ctx m κ ∗ PaFlyK m c k ∗ owe c (owed c x y))
    ⊢ iprop((iprop(PaHeldK m c k ∗ paRow m c k ∗ owe c (owed c x y)) -∗ run c K Q) -∗ run c (paWait c k K) Q) := by
  unfold PaFlyK PaHeldK
  iintro H HK
  iapply (w_pa m κ c Q K k x y _) $$ H
  iintro ⟨⟨H1, H2⟩, Hv, HO⟩
  iapply HK
  isplitl [H1 Hv]; · isplitl [H1] <;> iassumption
  isplitl [H2] <;> iassumption

theorem l_rsWait : iprop(ctx m κ ∗ RsFlyK m c k ∗ owe c (owed c x y))
    ⊢ iprop((iprop(RsHeldK m c k ∗ rsRow m c k ∗ owe c (owed c x y)) -∗ run c K Q) -∗ run c (rsWait c k K) Q) := by
  unfold RsFlyK RsHeldK
  iintro H HK
  iapply (w_rs m κ c Q K k x y _) $$ H
  iintro ⟨⟨H1, H2⟩, Hv, HO⟩
  iapply HK
  isplitl [H1 Hv]; · isplitl [H1] <;> iassumption
  isplitl [H2] <;> iassumption

theorem l_xSent : iprop(ctx m κ ∗ XsFlyK m c k ∗ owe c (owed c x y))
    ⊢ iprop((iprop(XsIdle c (s4 k) ∗ owe c (owed c x y)) -∗ run c K Q) -∗ run c (xSent k K) Q) := by
  unfold XsFlyK XsIdle
  iintro H HK
  iapply (w_xs m κ c Q K k x y _) $$ H
  iintro ⟨H1, Hv, HO⟩
  iapply HK
  isplitl [H1 Hv]
  · isplitl [H1]
    · iapply (owns_some c (xs (s4 k)) (xval m c k)) $$ H1
    · iexact Hv
  iexact HO

/-- The two waits for the copies out of a slot of finished chunks, in the order of the loop, -/
theorem l_obDone : iprop(ctx m κ ∗ ObFlyK m c k ∗ owe c (owed c x y))
    ⊢ iprop((iprop(ObIdle c (s2 k) ∗ ownVal m c k ∗ owe c (owed c x y)) -∗ run c K Q) -∗ run c (obWait c k (ySent k K)) Q) := by
  unfold ObFlyK ObIdle
  iintro ⟨#Hctx, ⟨H1, H2⟩, HO⟩ HK
  iapply (w_ob m κ c Q _ k x y _) $$ [H1 HO]
  · isplitr; · iexact Hctx
    isplitl [H1] <;> iassumption
  iintro ⟨⟨Hval, Hl⟩, Hv1, HO⟩
  iapply (w_ys m κ c Q _ k x y _) $$ [H2 HO]
  · isplitr; · iexact Hctx
    isplitl [H2] <;> iassumption
  iintro ⟨Hr, Hv2, HO⟩
  iapply HK
  isplitl [Hl Hr Hv1 Hv2]
  · isplitl [Hl Hr]
    · iapply (owns_some c (ob (s2 k)) (oval m c k))
      iapply (owns_unhalve c (ob (s2 k)) (oval m c k))
      isplitl [Hl] <;> iassumption
    · isplitl [Hv1] <;> iassumption
  isplitl [Hval] <;> iassumption

/-- and in the order of the tail. -/
theorem l_obDone' : iprop(ctx m κ ∗ ObFlyK m c k ∗ owe c (owed c x y))
    ⊢ iprop((iprop(ObIdle c (s2 k) ∗ ownVal m c k ∗ owe c (owed c x y)) -∗ run c K Q) -∗ run c (ySent k (obWait c k K)) Q) := by
  unfold ObFlyK ObIdle
  iintro ⟨#Hctx, ⟨H1, H2⟩, HO⟩ HK
  iapply (w_ys m κ c Q _ k x y _) $$ [H2 HO]
  · isplitr; · iexact Hctx
    isplitl [H2] <;> iassumption
  iintro ⟨Hr, Hv2, HO⟩
  iapply (w_ob m κ c Q _ k x y _) $$ [H1 HO]
  · isplitr; · iexact Hctx
    isplitl [H1] <;> iassumption
  iintro ⟨⟨Hval, Hl⟩, Hv1, HO⟩
  iapply HK
  isplitl [Hl Hr Hv1 Hv2]
  · isplitl [Hl Hr]
    · iapply (owns_some c (ob (s2 k)) (oval m c k))
      iapply (owns_unhalve c (ob (s2 k)) (oval m c k))
      isplitl [Hl] <;> iassumption
    · isplitl [Hv1] <;> iassumption
  isplitl [Hval] <;> iassumption

/-- What a copied chunk of the y-neighbour's leaves: the rows of the result, and the slot, its cell closed. -/
theorem l_ycWait : iprop(ctx m κ ∗ YcFlyK m c k ∗ sem0 c (rbSem true k) ∗ owe c (owed c x y))
    ⊢ iprop((iprop(YcIdle c (s2 k) ∗ otherVal m c k ∗ got m c true k ∗ owe c (owed c x y)) -∗ run c K Q) -∗ run c (ycWait c k K) Q) := by
  unfold YcFlyK YcIdle got
  iintro ⟨Hctx, HF, Hv', HO⟩ HK
  iapply (w_yc m κ c Q K k x y _) $$ [Hctx HF HO]
  · isplitl [Hctx]; · iexact Hctx
    isplitl [HF] <;> iassumption
  iintro ⟨⟨H1, H2⟩, Hv, HO⟩
  iapply HK
  isplitl [Hv]; · iexact Hv
  isplitl [H1]; · iexact H1
  isplitl [H2 Hv']
  · isplitl [H2]; · iexact H2
    iexact Hv'
  iexact HO

/-- The wait for an arrival: the slot with its contents, and the cell closed. -/
theorem run_recv {sp' : Space} {s' : Shape} {e' : EltTy} (b : Bool) (srcw : Memref sig .tc sp' s' e')
    {hsrc : srcw.view.WordExact} {hdst : (rb b k).view.WordExact}
    (hx : 16 ≤ x ∨ levelOf (some (some (b, k))) < 2 * x + 2) (hy : 16 ≤ y ∨ levelOf (some (some (b, k))) < 2 * y + 3) :
    iprop(ctx m κ ∗ inb c b k ∗ owe c (owed c x y))
      ⊢ iprop((iprop(got m c b k ∗ owe c (owed c x y)) -∗ run c K Q)
        -∗ run c (.op (.waitDma2 (rbSem b k) srcw (rb b k) hsrc hdst) fun _ => K) Q) := by
  unfold inb got owe
  iintro ⟨#Hctx, ⟨Hat, Hcr⟩, %W, HO⟩ HK
  ihave #Hcell := (ctx_cell (F := F) m κ c (some (b, k))) $$ Hctx
  icases Hcell with ⟨#Hinv, #Hr⟩
  iapply (Rounds.wp_wait_rest_token 𝒱₀ ER (Rd m) (c : Thread nD τ) none (κ := κ (c, some (b, k)))
      (wpE_waitDma2_eq 𝒱₀ (c : Thread nD τ) none Set.univ) (Set.mem_univ _) () (O := owed c x y) (W := W) (R := 0) (m := 0) (T := ∅)
      (by rw [expect_recv, Nat.zero_add]; exact credit_rb b k)) $$ [Hcr HO Hat]
  · isplitr; · iexact Hinv
    isplitl [Hcr]
    · rw [credit_rb b k]; iexact Hcr
    isplitl [HO]; · iexact HO
    isplitr
    · iapply (BIBase.Entails.trans (ctx_lev (F := F) m κ)
        (mayWait (F := F) c (.dma (rbSem b k)) x y (by rw [dec_recv]; exact hx) (by rw [dec_recv]; exact hy))) $$ Hctx
    iexact Hat
  iintro ⟨HO, Hat, -, Hpay⟩
  ihave Hp := (Entails.of_eq (rest_recv m c b k)) $$ Hpay
  imod (Rounds.cell_close ER (Rd m) (Set.mem_univ (κ (c, some (b, k)))) (fun h => h) (R := 0 + 1) (fun r hr => duties_later m (recvCell b c k) r hr)) $$ [Hat] with Hz
  · isplitr; · iexact Hinv
    iexact Hat
  iapply HK
  unfold recvPay
  isplitl [Hp Hz]; · isplitl [Hp] <;> iassumption
  iexists _; iexact HO

theorem l_xRecv (hx : 16 ≤ x ∨ k.val < x) (hy : k.val ≤ y) : iprop(ctx m κ ∗ inb c false k ∗ owe c (owed c x y))
    ⊢ iprop((iprop(got m c false k ∗ owe c (owed c x y)) -∗ run c K Q) -∗ run c (xRecv k K) Q) :=
  run_recv m κ c Q K k x y false (xs (s4 k)) (by show _ ∨ 2 * k.val + 2 < _; omega) (by show _ ∨ 2 * k.val + 2 < _; omega)

theorem l_yRecv (hx : 16 ≤ x ∨ k.val < x) (hy : k.val < y) : iprop(ctx m κ ∗ inb c true k ∗ owe c (owed c x y))
    ⊢ iprop((iprop(got m c true k ∗ owe c (owed c x y)) -∗ run c K Q) -∗ run c (yRecv k K) Q) :=
  run_recv m κ c Q K k x y true (ob (s2 k)) (by show _ ∨ 2 * k.val + 3 < _; omega) (by show _ ∨ 2 * k.val + 3 < _; omega)

/-- The copy of the y-neighbour's chunk to the result. -/
theorem l_ycStart : iprop(YcIdle c (s2 k) ∗ owns (c : Thread nD τ) (yr k) fullShare (rval m true c k) ∗ some' c (outOther c k))
    ⊢ iprop((YcFlyK m c k -∗ run c K Q) -∗ run c (ycStart c k K) Q) := by
  unfold YcIdle YcFlyK otherVal ycStart
  iintro ⟨Hv, Hs, Hd⟩
  iapply (run_copy c (yr k) (outOther c k) (ycSem (s2 k)) numel_pos fullShare (rval m true c k) K Q)
  isplitl [Hs]; · iexact Hs
  isplitl [Hd] <;> iassumption

/-- The copies to the neighbours. -/
theorem l_xStart : iprop(ctx m κ ∗ (owns (c : Thread nD τ) (xs (s4 k)) fullShare (xval m c k) ∗ sem0 c (xsSem (s4 k))) ∗ pay c false k ∗ owe c (owed c k.val y))
    ⊢ iprop((iprop(XsFlyK m c k ∗ owe c (owed c (k.val + 1) y)) -∗ run c K Q) -∗ run c (xStart c k K) Q) := by
  unfold XsFlyK pay xStart
  iintro ⟨#Hctx, ⟨Hs, Hv⟩, ⟨Hd, Ht⟩, HO⟩
  ihave #Hcell := (ctx_cell (F := F) m κ (nb false c) (some (false, k))) $$ Hctx
  icases Hcell with ⟨#Hinv, #Hr⟩
  iapply (run_send c (Rd m) (κ (nb false c, some (false, k))) (nb false c) (xs (s4 k)) (xr k) (xsSem (s4 k)) (xrSem k) numel_pos (credit_rb false k)
    fullShare (xval m c k) false (by rw [show (SemLoc.dma (xrSem k)) = SemLoc.dma (rbSem false k) from rfl, duties_recv]; exact Finset.mem_singleton_self _)
    (amount_recv m (nb false c) false k _)
    (by
      rw [show (SemLoc.dma (xrSem k)) = SemLoc.dma (rbSem false k) from rfl, payload_recv]
      show _ ⊢ owns _ _ fullShare (xval m (nb false (nb false c)) k)
      rw [nb_nb]
      exact .rfl)
    (owed c (k.val + 1) y) (owed_x c k y) K Q)
  isplitl [Hs]; · iexact Hs
  isplitl [Hd]; · iexact Hd
  isplitl [Hv]; · iexact Hv
  isplitl [HO]; · iexact HO
  isplitr; · iexact Hinv
  isplitl [Ht]; · iexact Ht
  iexact Hr

theorem l_yStart (q : PosShare TreeShare) : iprop(ctx m κ ∗ (owns (c : Thread nD τ) (ob (s2 k)) q (oval m c k) ∗ sem0 c (ysSem (s2 k))) ∗ pay c true k ∗ owe c (owed c x k.val))
    ⊢ iprop((iprop(flight c (ysSem (s2 k)) N (owns (c : Thread nD τ) (ob (s2 k)) q (oval m c k)) ∗ owe c (owed c x (k.val + 1))) -∗ run c K Q) -∗ run c (yStart c k K) Q) := by
  unfold pay yStart
  iintro ⟨#Hctx, ⟨Hs, Hv⟩, ⟨Hd, Ht⟩, HO⟩
  ihave #Hcell := (ctx_cell (F := F) m κ (nb true c) (some (true, k))) $$ Hctx
  icases Hcell with ⟨#Hinv, #Hr⟩
  iapply (run_send c (Rd m) (κ (nb true c, some (true, k))) (nb true c) (ob (s2 k)) (yr k) (ysSem (s2 k)) (yrSem k) numel_pos (credit_rb true k)
    q (oval m c k) false (by rw [show (SemLoc.dma (yrSem k)) = SemLoc.dma (rbSem true k) from rfl, duties_recv]; exact Finset.mem_singleton_self _)
    (amount_recv m (nb true c) true k _)
    (by
      rw [show (SemLoc.dma (yrSem k)) = SemLoc.dma (rbSem true k) from rfl, payload_recv]
      show _ ⊢ owns _ _ fullShare (oval m (nb true (nb true c)) k)
      rw [nb_nb]
      exact .rfl)
    (owed c x (k.val + 1)) (owed_y c k x) K Q)
  isplitl [Hs]; · iexact Hs
  isplitl [Hd]; · iexact Hd
  isplitl [Hv]; · iexact Hv
  isplitl [HO]; · iexact HO
  isplitr; · iexact Hinv
  isplitl [Ht]; · iexact Ht
  iexact Hr

/-- The reads, -/
theorem ld_pa (X : S128x4096.Idx → Elt F .f32) (G : Vec F S1x128x4096 .f32 → P F) : (owns (c : Thread nD τ) (pa (s4 k)) fullShare X : sProp 𝕄)
    ⊢ iprop((owns (c : Thread nD τ) (pa (s4 k)) fullShare X -∗ run c (G (up X)) Q) -∗ run c (paLoad k G) Q) :=
  run_load c (Memref.whole cc0_scratch0) (r4 (s4 k)) (fun _ => rfl) squeezes_S1x128x4096_S128x4096 shapeCasts_S1x128x4096_S128x4096 shapeCasts_S128x4096_S1x128x4096
    fullShare X G Q

theorem l_paLoad (G : Vec F S1x128x4096 .f32 → P F) : (PaHeldK m c k : sProp 𝕄)
    ⊢ iprop((PaHeldK m c k -∗ run c (G (up (pc m c k))) Q) -∗ run c (paLoad k G) Q) := by
  unfold PaHeldK
  iintro ⟨H, Hv⟩ HK
  iapply (ld_pa c Q k (pc m c k) G) $$ H
  iintro H
  iapply HK
  isplitl [H] <;> iassumption

theorem ld_rs (X : S128x4096.Idx → Elt F .f32) (G : Vec F S1x128x4096 .f32 → P F) : (owns (c : Thread nD τ) (rs (s2 k)) fullShare X : sProp 𝕄)
    ⊢ iprop((owns (c : Thread nD τ) (rs (s2 k)) fullShare X -∗ run c (G (up X)) Q) -∗ run c (rsLoad k G) Q) :=
  run_load c (Memref.whole cc0_scratch1) (r2 (s2 k)) (fun _ => rfl) squeezes_S1x128x4096_S128x4096 shapeCasts_S1x128x4096_S128x4096 shapeCasts_S128x4096_S1x128x4096
    fullShare X G Q

theorem l_rsLoad (G : Vec F S1x128x4096 .f32 → P F) : (RsHeldK m c k : sProp 𝕄)
    ⊢ iprop((RsHeldK m c k -∗ run c (G (up (rc m c k))) Q) -∗ run c (rsLoad k G) Q) := by
  unfold RsHeldK
  iintro ⟨H, Hv⟩ HK
  iapply (ld_rs c Q k (rc m c k) G) $$ H
  iintro H
  iapply HK
  isplitl [H] <;> iassumption

theorem ld_xr (X : S128x4096.Idx → Elt F .bf16) (G : Vec F S1x128x4096 .bf16 → P F) : (owns (c : Thread nD τ) (xr k) fullShare X : sProp 𝕄)
    ⊢ iprop((owns (c : Thread nD τ) (xr k) fullShare X -∗ run c (G (up X)) Q) -∗ run c (xrLoad k G) Q) :=
  run_load c (Memref.whole cc0_scratch4) (r16 k) (fun _ => rfl) squeezes_S1x128x4096_S128x4096 shapeCasts_S1x128x4096_S128x4096 shapeCasts_S128x4096_S1x128x4096
    fullShare X G Q

theorem l_xrLoad (G : Vec F S1x128x4096 .bf16 → P F) : (got m c false k : sProp 𝕄)
    ⊢ iprop((got m c false k -∗ run c (G (up (xval m (nb false c) k))) Q) -∗ run c (xrLoad k G) Q) := by
  unfold got rb rval
  iintro ⟨H, Hv⟩ HK
  iapply (ld_xr c Q k (xval m (nb false c) k) G) $$ H
  iintro H
  iapply HK
  isplitl [H] <;> iassumption

/-- and the writes. -/
theorem l_xsPut (v : Vec F S1x128x4096 .bf16) : (some' c (xs (s4 k)) : sProp 𝕄)
    ⊢ iprop((owns (c : Thread nD τ) (xs (s4 k)) fullShare (dn v) -∗ run c K Q) -∗ run c (xsPut k v K) Q) := by
  unfold some' xsPut
  iintro ⟨%X, H⟩ HK
  iapply (show (owns (c : Thread nD τ) (xs (s4 k)) fullShare X : sProp 𝕄) ⊢ iprop((owns (c : Thread nD τ) (xs (s4 k)) fullShare X -∗ _) -∗ _) from
    run_load c (Memref.whole cc0_scratch3) (r4 (s4 k)) (fun _ => rfl) squeezes_S1x128x4096_S128x4096 shapeCasts_S1x128x4096_S128x4096 shapeCasts_S128x4096_S1x128x4096
      fullShare X _ Q) $$ H
  iintro H
  iapply (show (some' c (xs (s4 k)) : sProp 𝕄) ⊢ iprop((owns (c : Thread nD τ) (xs (s4 k)) fullShare (dn v) -∗ run c K Q) -∗ _) from
    run_store c (Memref.whole cc0_scratch3) (r4 (s4 k)) (fun _ => rfl) squeezes_S1x128x4096_S128x4096 v shapeCasts_S1x128x4096_S128x4096 K Q) $$ [H]
  · iapply (owns_some c (xs (s4 k)) X) $$ H
  iexact HK

theorem l_obPut (v : Vec F S1x128x4096 .bf16) : (some' c (ob (s2 k)) : sProp 𝕄)
    ⊢ iprop((owns (c : Thread nD τ) (ob (s2 k)) fullShare (dn v) -∗ run c K Q) -∗ run c (obPut k v K) Q) := by
  unfold some' obPut
  iintro ⟨%X, H⟩ HK
  iapply (show (owns (c : Thread nD τ) (ob (s2 k)) fullShare X : sProp 𝕄) ⊢ iprop((owns (c : Thread nD τ) (ob (s2 k)) fullShare X -∗ _) -∗ _) from
    run_load c (Memref.whole cc0_scratch2) (r2 (s2 k)) (fun _ => rfl) squeezes_S1x128x4096_S128x4096 shapeCasts_S1x128x4096_S128x4096 shapeCasts_S128x4096_S1x128x4096
      fullShare X _ Q) $$ H
  iintro H
  iapply (show (some' c (ob (s2 k)) : sProp 𝕄) ⊢ iprop((owns (c : Thread nD τ) (ob (s2 k)) fullShare (dn v) -∗ run c K Q) -∗ _) from
    run_store c (Memref.whole cc0_scratch2) (r2 (s2 k)) (fun _ => rfl) squeezes_S1x128x4096_S128x4096 v shapeCasts_S1x128x4096_S128x4096 K Q) $$ [H]
  · iapply (owns_some c (ob (s2 k)) X) $$ H
  iexact HK

end Cert.KernelIdeal.Norm
-- ==== Proof.KernelIdeal.Turn.lean ====
/- One turn of the kernel's loop, at any chunk: it takes the state of the buffers before chunk `k` to the state before
   chunk `k + 1`. -/
module

public import proofs.«01_k».proof.Proof.KernelIdeal.Chunk

@[expose] public section

set_option maxRecDepth 10000

noncomputable section

namespace Cert.KernelIdeal.Norm

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable (m : (ℓ : Loc nD τ sig) → Buf (Elt F) ℓ)
variable (κ : Dev nD × Option (Bool × Fin 16) → ℕ) (c : Dev nD)
variable (Q : PUnit.{1} → sProp (RM F)) (K : P F) (k : Fin 16) (x y : ℕ)

/-! ## The rings of buffers -/

/-- The partial sums of chunk `n` on their way in (an idle slot after the last chunk), -/
def PaFly (n : ℕ) : sProp 𝕄 := ringAt 4 0 (PaFlyK m c) (PaIdle c) n
/-- and there. -/
def PaHeld (n : ℕ) : sProp 𝕄 := ringAt 4 0 (PaHeldK m c) (PaIdle c) n
/-- The slot that chunk `n` will leave from for the x-neighbour: chunk `n - 4` may be leaving from it. -/
def XsOut (n : ℕ) : sProp 𝕄 := ringAt 4 4 (XsFlyK m c) (XsIdle c) n
/-- The four slots, before chunk `n`. -/
def XsRing (n : ℕ) : sProp 𝕄 := iprop(XsOut m c n ∗ XsOut m c (n + 1) ∗ XsOut m c (n + 2) ∗ XsOut m c (n + 3))
/-- The residual's rows of chunk `n` on their way in. -/
def RsFly (n : ℕ) : sProp 𝕄 := ringAt 2 0 (RsFlyK m c) (RsIdle c) n
/-- The slot of the finished chunk `n`: chunk `n - 2` may be leaving from it. -/
def ObOut (n : ℕ) : sProp 𝕄 := ringAt 2 2 (ObFlyK m c) (ObIdle c) n
/-- A chunk of the y-neighbour's on its way to the result. -/
def YcSt (j : Fin 16) : sProp 𝕄 := iprop(YcFlyK m c j ∗ sem0 c (rbSem true j))
/-- The semaphore of those copies, at the turn of chunk `n - 2`: chunk `n - 4` may be in flight on it. -/
def YcOut (n : ℕ) : sProp 𝕄 := ringAt 2 4 (YcSt m c) (YcIdle c) n
/-- A chunk of the y-neighbour's after all. -/
def fin (j : Fin 16) : sProp 𝕄 := iprop(otherVal m c j ∗ got m c true j)
/-- What a device needs of a chunk that it finishes, and of one that the y-neighbour does. -/
def mine (j : Fin 16) : sProp 𝕄 := iprop(pay c true j ∗ some' c (outOwn c j))
@[inherit_doc mine]
def yours (j : Fin 16) : sProp 𝕄 := iprop(inb c true j ∗ some' c (outOther c j))

theorem due_shift (d a n : ℕ) (A : Fin 16 → sProp 𝕄) : due (d + a) (n + a) A = due d n A := by
  by_cases h : d ≤ n ∧ n - d < 16
  · rw [due_at d n A ⟨n - d, h.2⟩ (by simp only; omega), due_at (d + a) (n + a) A ⟨n - d, h.2⟩ (by simp only; omega)]
  · rw [due_out d n A h, due_out (d + a) (n + a) A (by omega)]

/-! ## Chunk `k` to the x-neighbour -/

theorem l_xBack : iprop(ctx m κ ∗ XsOut m c k.val ∗ owe c (owed c x y))
    ⊢ iprop((iprop(XsIdle c (s4 k) ∗ owe c (owed c x y)) -∗ run c K Q) -∗ run c (back k 4 xSent K) Q) := by
  refine run_back c Q k 4 xSent K (fun j hj => ?_) (fun hk => ?_)
  · unfold XsOut
    rw [ringAt_at k.val j hj.symm, show s4 k = s4 j from Fin.ext (by simp only; omega)]
    exact l_xSent m κ c Q K j x y
  · unfold XsOut
    rw [ringAt_out k.val (s4 k) rfl (by omega)]
    iintro ⟨-, H⟩
    iexact H

theorem l_stage1 : iprop(ctx m κ ∗ PaFlyK m c k ∗ XsOut m c k.val ∗ pay c false k ∗ owe c (owed c k.val y))
    ⊢ iprop((iprop(PaHeldK m c k ∗ paRow m c k ∗ XsFlyK m c k ∗ owe c (owed c (k.val + 1) y)) -∗ run c K Q)
      -∗ run c (stage1 c k K) Q) := by
  unfold stage1
  iintro ⟨#Hctx, HF, HX, HP, HO⟩ HK
  iapply (l_xBack m κ c Q _ k k.val y) $$ [HX HO]
  · isplitr; · iexact Hctx
    isplitl [HX] <;> iassumption
  iintro ⟨HX, HO⟩
  iapply (l_paWait m κ c Q _ k k.val y) $$ [HF HO]
  · isplitr; · iexact Hctx
    isplitl [HF] <;> iassumption
  iintro ⟨HF, Hrow, HO⟩
  iapply (l_paLoad m c Q k _) $$ HF
  iintro HF
  unfold XsIdle
  icases HX with ⟨HX, Hv⟩
  iapply (l_xsPut c Q _ k _) $$ HX
  iintro HX
  iapply (l_xStart m κ c Q K k y) $$ [HX Hv HP HO]
  · isplitr; · iexact Hctx
    isplitl [HX Hv]
    · isplitl [HX]; · iexact HX
      iexact Hv
    isplitl [HP] <;> iassumption
  iintro ⟨HX, HO⟩
  iapply HK
  isplitl [HF]; · iexact HF
  isplitl [Hrow]; · iexact Hrow
  isplitl [HX] <;> iassumption

/-! ## Chunk `k` from the y-neighbour -/

theorem l_ycBack : iprop(ctx m κ ∗ YcOut m c (k.val + 2) ∗ owe c (owed c x y))
    ⊢ iprop((iprop(YcIdle c (s2 k) ∗ due 2 k.val (fin m c) ∗ owe c (owed c x y)) -∗ run c K Q) -∗ run c (back k 2 (ycWait c) K) Q) := by
  refine run_back c Q k 2 (ycWait c) K (fun j hj => ?_) (fun hk => ?_)
  · unfold YcOut
    rw [ringAt_at (k.val + 2) j (by omega), due_at 2 k.val _ j hj.symm, show s2 k = s2 j from Fin.ext (by simp only; omega)]
    unfold YcSt fin
    iintro ⟨Hctx, ⟨HF, Hv⟩, HO⟩ HK
    iapply (l_ycWait m κ c Q K j x y) $$ [Hctx HF Hv HO]
    · isplitl [Hctx]; · iexact Hctx
      isplitl [HF]; · iexact HF
      isplitl [Hv] <;> iassumption
    iintro ⟨Hi, Hval, Hgot, HO⟩
    iapply HK
    isplitl [Hi]; · iexact Hi
    isplitl [Hval Hgot]; · isplitl [Hval] <;> iassumption
    iexact HO
  · unfold YcOut
    rw [ringAt_out (k.val + 2) (s2 k) (by simp only; omega) (by omega), due_out 2 k.val _ (by omega)]
    iintro ⟨-, Hi, HO⟩
    isplitl [Hi]; · iexact Hi
    isplitr; · iempintro
    iexact HO

theorem l_consume (hx : 16 ≤ x ∨ k.val < x) (hy : k.val < y) :
    iprop(ctx m κ ∗ yours c k ∗ YcOut m c (k.val + 2) ∗ owe c (owed c x y))
    ⊢ iprop((iprop(YcOut m c (k.val + 4) ∗ due 2 k.val (fin m c) ∗ owe c (owed c x y)) -∗ run c K Q) -∗ run c (consume c k K) Q) := by
  unfold consume yours
  iintro ⟨#Hctx, ⟨Hin, Hd⟩, HY, HO⟩ HK
  iapply (l_yRecv m κ c Q _ k x y hx hy) $$ [Hin HO]
  · isplitr; · iexact Hctx
    isplitl [Hin] <;> iassumption
  iintro ⟨Hgot, HO⟩
  iapply (l_ycBack m κ c Q _ k x y) $$ [HY HO]
  · isplitr; · iexact Hctx
    isplitl [HY] <;> iassumption
  iintro ⟨HY, Hfin, HO⟩
  unfold got
  icases Hgot with ⟨Hr, Hv⟩
  iapply (l_ycStart m c Q K k) $$ [HY Hr Hd]
  · isplitl [HY]; · iexact HY
    isplitl [Hr]; · iexact Hr
    iexact Hd
  iintro HY
  iapply HK
  unfold YcOut
  rw [ringAt_at (k.val + 4) k rfl]
  unfold YcSt
  isplitl [HY Hv]; · isplitl [HY] <;> iassumption
  isplitl [Hfin] <;> iassumption

/-! ## The pieces of a turn -/

theorem t_stage : iprop(ctx m κ ∗ PaFly m c (k.val + 3) ∗ XsRing m c (min (k.val + 3) 16) ∗ due 0 (k.val + 3) (pay c false) ∗ owe c (owed c (k.val + 3) y))
    ⊢ iprop((iprop(PaHeld m c (k.val + 3) ∗ due 0 (k.val + 3) (paRow m c) ∗ XsRing m c (min (k.val + 4) 16) ∗ owe c (owed c (k.val + 4) y)) -∗ run c K Q)
      -∗ run c (when (k.val + 3) (stage1 c) K) Q) := by
  refine run_when c Q (k.val + 3) (stage1 c) K (fun j hj => ?_) (fun hk => ?_)
  · have := j.isLt
    rw [hj, Nat.min_eq_left (by omega), show k.val + 4 = j.val + 1 by omega, Nat.min_eq_left (by omega), due_at 0 j.val _ j rfl, due_at 0 j.val _ j rfl]
    unfold PaFly PaHeld XsRing
    rw [ringAt_at j.val j rfl, ringAt_at j.val j rfl]
    iintro ⟨#Hctx, HF, ⟨HX0, HX1, HX2, HX3⟩, HP, HO⟩ HK
    iapply (l_stage1 m κ c Q K j y) $$ [HF HX0 HP HO]
    · isplitr; · iexact Hctx
      isplitl [HF]; · iexact HF
      isplitl [HX0]; · iexact HX0
      isplitl [HP] <;> iassumption
    iintro ⟨HF, Hrow, HX, HO⟩
    iapply HK
    isplitl [HF]; · iexact HF
    isplitl [Hrow]; · iexact Hrow
    isplitl [HX1 HX2 HX3 HX]
    · isplitl [HX1]; · iexact HX1
      isplitl [HX2]; · iexact HX2
      isplitl [HX3]; · iexact HX3
      rw [show j.val + 1 + 3 = j.val + 4 by omega]
      unfold XsOut
      rw [ringAt_at (j.val + 4) j rfl]
      iexact HX
    iexact HO
  · rw [Nat.min_eq_right (by omega), Nat.min_eq_right (by omega), due_out 0 (k.val + 3) (pay c false) (by omega), due_out 0 (k.val + 3) (paRow m c) (by omega),
      owed_out c (k.val + 3) (k.val + 4) y (by omega) (by omega)]
    unfold PaFly PaHeld
    rw [ringAt_out (k.val + 3) (Fin.ofNat 4 (k.val + 3)) rfl (by omega), ringAt_out (k.val + 3) (Fin.ofNat 4 (k.val + 3)) rfl (by omega)]
    iintro ⟨-, HF, HX, -, HO⟩
    isplitl [HF]; · iexact HF
    isplitr; · iempintro
    isplitl [HX] <;> iassumption

theorem t_rsStart : iprop(RsIdle c (Fin.ofNat 2 (k.val + 1)) ∗ due 0 (k.val + 1) (rsRow m c))
    ⊢ iprop((RsFly m c (k.val + 1) -∗ run c K Q) -∗ run c (when (k.val + 1) (rsStart c) K) Q) := by
  refine run_when c Q (k.val + 1) (rsStart c) K (fun j hj => ?_) (fun hk => ?_)
  · unfold RsFly
    rw [hj, ringAt_at j.val j rfl, due_at 0 j.val _ j rfl]
    exact l_rsStart m c Q K j
  · unfold RsFly
    rw [ringAt_out (k.val + 1) (Fin.ofNat 2 (k.val + 1)) rfl (by omega)]
    iintro ⟨H, -⟩
    iexact H

theorem t_paStart : iprop(PaIdle c (s4 k) ∗ due 0 (k.val + 4) (paRow m c))
    ⊢ iprop((PaFly m c (k.val + 4) -∗ run c K Q) -∗ run c (when (k.val + 4) (paStart c) K) Q) := by
  refine run_when c Q (k.val + 4) (paStart c) K (fun j hj => ?_) (fun hk => ?_)
  · unfold PaFly
    rw [hj, ringAt_at j.val j rfl, due_at 0 j.val _ j rfl, show s4 k = s4 j from Fin.ext (by simp only; omega)]
    exact l_paStart m c Q K j
  · unfold PaFly
    rw [ringAt_out (k.val + 4) (s4 k) (by simp only; omega) (by omega)]
    iintro ⟨H, -⟩
    iexact H

theorem t_obBack : iprop(ctx m κ ∗ ObOut m c k.val ∗ owe c (owed c x y))
    ⊢ iprop((iprop(ObIdle c (s2 k) ∗ due 2 k.val (ownVal m c) ∗ owe c (owed c x y)) -∗ run c K Q)
      -∗ run c (back k 2 (fun j K => obWait c j (ySent j K)) K) Q) := by
  refine run_back c Q k 2 _ K (fun j hj => ?_) (fun hk => ?_)
  · unfold ObOut
    rw [ringAt_at k.val j hj.symm, due_at 2 k.val _ j hj.symm, show s2 k = s2 j from Fin.ext (by simp only; omega)]
    exact l_obDone m κ c Q K j x y
  · unfold ObOut
    rw [ringAt_out k.val (s2 k) rfl (by omega), due_out 2 k.val _ (by omega)]
    iintro ⟨-, Hi, HO⟩
    isplitl [Hi]; · iexact Hi
    isplitr; · iempintro
    iexact HO

/-- The finished chunk is written to its slot, and leaves for the result and for the y-neighbour. -/
theorem t_put : iprop(ctx m κ ∗ ObIdle c (s2 k) ∗ mine c k ∗ owe c (owed c x k.val))
    ⊢ iprop((iprop(ObFlyK m c k ∗ owe c (owed c x (k.val + 1))) -∗ run c K Q)
      -∗ run c (obPut k (normPay (gammaRow (gm m c)) (sumPay (up (pc m c k)) (up (xval m (nb false c) k)) (up (rc m c k))))
          (obStart c k (yStart c k K))) Q) := by
  unfold ObIdle mine ObFlyK
  iintro ⟨#Hctx, ⟨Hob, Hv1, Hv2⟩, ⟨Hpay, Hout⟩, HO⟩ HK
  iapply (l_obPut c Q _ k _) $$ Hob
  iintro Hob
  ihave Hob := (Entails.of_eq (show (owns (c : Thread nD τ) (ob (s2 k)) fullShare (dn (normPay (gammaRow (gm m c)) (sumPay (up (pc m c k)) (up (xval m (nb false c) k)) (up (rc m c k))))) : sProp 𝕄)
    = owns (c : Thread nD τ) (ob (s2 k)) fullShare (oval m c k) from rfl)) $$ Hob
  ihave Hh := (show (owns (c : Thread nD τ) (ob (s2 k)) fullShare (oval m c k) : sProp 𝕄) ⊢ _ from owns_halve c (ob (s2 k)) (oval m c k)) $$ Hob
  icases Hh with ⟨Hl, Hr⟩
  iapply (show iprop(owns (c : Thread nD τ) (ob (s2 k)) fullShare.left (oval m c k) ∗ some' c (outOwn c k) ∗ sem0 c (obSem (s2 k)))
      ⊢ iprop((flight c (obSem (s2 k)) (outOwn c k).view.dmaCredit iprop(ownVal m c k ∗ owns (c : Thread nD τ) (ob (s2 k)) fullShare.left (oval m c k))
          -∗ run c (yStart c k K) Q) -∗ run c (obStart c k (yStart c k K)) Q) from
    run_copy c (ob (s2 k)) (outOwn c k) (obSem (s2 k)) numel_pos fullShare.left (oval m c k) (yStart c k K) Q) $$ [Hl Hout Hv1]
  · isplitl [Hl]; · iexact Hl
    isplitl [Hout] <;> iassumption
  iintro HF
  iapply (l_yStart m κ c Q K k x fullShare.right) $$ [Hr Hv2 Hpay HO]
  · isplitr; · iexact Hctx
    isplitl [Hr Hv2]; · isplitl [Hr] <;> iassumption
    isplitl [Hpay] <;> iassumption
  iintro ⟨HF2, HO⟩
  iapply HK
  isplitl [HF HF2]; · isplitl [HF] <;> iassumption
  iexact HO

theorem t_consume : iprop(ctx m κ ∗ due 2 k.val (yours c) ∗ (YcOut m c (max k.val 2) ∗ YcOut m c (max k.val 2 + 1)) ∗ owe c (owed c (k.val + 4) (k.val + 1)))
    ⊢ iprop((iprop((YcOut m c (max (k.val + 1) 2) ∗ YcOut m c (max (k.val + 1) 2 + 1)) ∗ due 4 k.val (fin m c) ∗ owe c (owed c (k.val + 4) (k.val + 1))) -∗ run c K Q)
      -∗ run c (back k 2 (consume c) K) Q) := by
  refine run_back c Q k 2 _ K (fun j hj => ?_) (fun hk => ?_)
  · rw [due_at 2 k.val _ j hj.symm, Nat.max_eq_left (by omega), Nat.max_eq_left (by omega), show due 4 k.val (fin m c) = due 2 j.val (fin m c) from by
      rw [← hj]; exact due_shift 2 2 j.val _]
    iintro ⟨Hctx, Hin, ⟨HY0, HY1⟩, HO⟩ HK
    iapply (l_consume m κ c Q K j (k.val + 4) (k.val + 1) (by omega) (by omega)) $$ [Hctx Hin HY0 HO]
    · isplitl [Hctx]; · iexact Hctx
      isplitl [Hin]; · iexact Hin
      isplitl [HY0]
      · rw [hj]; iexact HY0
      iexact HO
    iintro ⟨HY, Hfin, HO⟩
    iapply HK
    isplitl [HY1 HY]
    · isplitl [HY1]; · iexact HY1
      rw [show k.val + 1 + 1 = j.val + 4 by omega]
      iexact HY
    isplitl [Hfin] <;> iassumption
  · rw [Nat.max_eq_right (by omega), Nat.max_eq_right (by omega), due_out 4 k.val _ (by omega)]
    iintro ⟨-, -, HY, HO⟩
    isplitl [HY]; · iexact HY
    isplitr; · iempintro
    iexact HO

/-! ## The turn -/

/-- The state before turn `n`. -/
def Inv (n : ℕ) : sProp 𝕄 := iprop(
  (PaHeld m c n ∗ PaHeld m c (n + 1) ∗ PaHeld m c (n + 2) ∗ PaFly m c (n + 3))
  ∗ XsRing m c (min (n + 3) 16)
  ∗ (RsFly m c n ∗ RsIdle c (Fin.ofNat 2 (n + 1)))
  ∗ (ObOut m c n ∗ ObOut m c (n + 1))
  ∗ (YcOut m c (max n 2) ∗ YcOut m c (max n 2 + 1))
  ∗ (todo 0 (n + 4) (paRow m c) ∗ done 0 (n + 3) (paRow m c))
  ∗ (todo 0 (n + 1) (rsRow m c) ∗ done 0 n (rsRow m c))
  ∗ todo 0 (n + 3) (pay c false)
  ∗ (todo 0 n (inb c false) ∗ done 0 n (got m c false))
  ∗ (todo 0 n (mine c) ∗ done 2 n (ownVal m c))
  ∗ (todo 2 n (yours c) ∗ done 4 n (fin m c))
  ∗ owe c (owed c (n + 3) n))

theorem t_turn : iprop(ctx m κ ∗ Inv m c k.val)
    ⊢ iprop((Inv m c (k.val + 1) -∗ run c K Q) -∗ run c (turn c (gammaRow (gm m c)) k K) Q) := by
  unfold Inv turn
  iintro ⟨#Hctx, ⟨Ha0, Ha1, Ha2, Ha3⟩, HX, ⟨Hr0, Hr1⟩, ⟨Ho0, Ho1⟩, HY, ⟨HpT, HpD⟩, ⟨HrT, HrD⟩, HxT, ⟨HiT, HiD⟩, ⟨HmT, HmD⟩, ⟨HyT, HyD⟩, HO⟩ HK
  -- the members whose turn it is
  ihave HpT := (Entails.of_eq (todo_take 0 (k.val + 4) (paRow m c))) $$ HpT
  icases HpT with ⟨HpN, HpT⟩
  ihave HrT := (Entails.of_eq (todo_take 0 (k.val + 1) (rsRow m c))) $$ HrT
  icases HrT with ⟨HrN, HrT⟩
  ihave HxT := (Entails.of_eq (todo_take 0 (k.val + 3) (pay c false))) $$ HxT
  icases HxT with ⟨HxN, HxT⟩
  ihave HiT := (Entails.of_eq ((todo_take 0 k.val (inb c false)).trans (by rw [due_at 0 k.val _ k rfl]))) $$ HiT
  icases HiT with ⟨HiN, HiT⟩
  ihave HmT := (Entails.of_eq ((todo_take 0 k.val (mine c)).trans (by rw [due_at 0 k.val _ k rfl]))) $$ HmT
  icases HmT with ⟨HmN, HmT⟩
  ihave HyT := (Entails.of_eq (todo_take 2 k.val (yours c))) $$ HyT
  icases HyT with ⟨HyN, HyT⟩
  -- chunk `k + 3` to the x-neighbour
  iapply (t_stage m κ c Q _ k k.val) $$ [Ha3 HX HxN HO]
  · isplitr; · iexact Hctx
    isplitl [Ha3]; · iexact Ha3
    isplitl [HX]; · iexact HX
    isplitl [HxN] <;> iassumption
  iintro ⟨Ha3, HpN', HX, HO⟩
  iapply (t_rsStart m c Q _ k) $$ [Hr1 HrN]
  · isplitl [Hr1] <;> iassumption
  iintro Hr1
  -- chunk `k` from the x-neighbour, and the residual
  iapply (l_xRecv m κ c Q _ k (k.val + 4) k.val (by omega) le_rfl) $$ [HiN HO]
  · isplitr; · iexact Hctx
    isplitl [HiN] <;> iassumption
  iintro ⟨HiN, HO⟩
  ihave Hr0 := (Entails.of_eq (show RsFly m c k.val = RsFlyK m c k from ringAt_at k.val k rfl)) $$ Hr0
  iapply (l_rsWait m κ c Q _ k (k.val + 4) k.val) $$ [Hr0 HO]
  · isplitr; · iexact Hctx
    isplitl [Hr0] <;> iassumption
  iintro ⟨Hr0, HrN', HO⟩
  -- the reads
  ihave Ha0 := (Entails.of_eq (show PaHeld m c k.val = PaHeldK m c k from ringAt_at k.val k rfl)) $$ Ha0
  iapply (l_paLoad m c Q k _) $$ Ha0
  iintro Ha0
  iapply (l_xrLoad m c Q k _) $$ HiN
  iintro HiN
  iapply (l_rsLoad m c Q k _) $$ Hr0
  iintro Hr0
  -- the next partial sums into the slot just read
  ihave Ha0 := (show PaHeldK m c k ⊢ PaIdle c (s4 k) from by
    unfold PaHeldK PaIdle
    exact sep_mono_left (owns_some c (pa (s4 k)) (pc m c k))) $$ Ha0
  iapply (t_paStart m c Q _ k) $$ [Ha0 HpN]
  · isplitl [Ha0] <;> iassumption
  iintro Ha0
  ihave Hr0 := (show RsHeldK m c k ⊢ RsIdle c (Fin.ofNat 2 (k.val + 1 + 1)) from by
    unfold RsHeldK RsIdle
    rw [show (Fin.ofNat 2 (k.val + 1 + 1)) = s2 k from Fin.ext (by show (k.val + 1 + 1) % 2 = k.val % 2; omega)]
    exact sep_mono_left (owns_some c (rs (s2 k)) (rc m c k))) $$ Hr0
  -- the finished chunk
  iapply (t_obBack m κ c Q _ k (k.val + 4) k.val) $$ [Ho0 HO]
  · isplitr; · iexact Hctx
    isplitl [Ho0] <;> iassumption
  iintro ⟨Ho0, HmN', HO⟩
  iapply (t_put m κ c Q _ k (k.val + 4)) $$ [Ho0 HmN HO]
  · isplitr; · iexact Hctx
    isplitl [Ho0]; · iexact Ho0
    isplitl [HmN] <;> iassumption
  iintro ⟨Ho0, HO⟩
  -- the y-neighbour's chunk `k - 2`
  iapply (t_consume m κ c Q _ k) $$ [HyN HY HO]
  · isplitr; · iexact Hctx
    isplitl [HyN]; · iexact HyN
    isplitl [HY] <;> iassumption
  iintro ⟨HY, HyN', HO⟩
  iapply HK
  rw [done_put 0 (k.val + 3) (paRow m c), done_put 0 k.val (rsRow m c), done_put 0 k.val (got m c false), done_put 2 k.val (ownVal m c), done_put 4 k.val (fin m c),
    due_at 0 k.val (rsRow m c) k rfl, due_at 0 k.val (got m c false) k rfl]
  isplitl [Ha0 Ha1 Ha2 Ha3]
  · isplitl [Ha1]; · iexact Ha1
    isplitl [Ha2]; · iexact Ha2
    isplitl [Ha3]; · iexact Ha3
    iexact Ha0
  isplitl [HX]; · iexact HX
  isplitl [Hr0 Hr1]; · isplitl [Hr1] <;> iassumption
  isplitl [Ho0 Ho1]
  · isplitl [Ho1]; · iexact Ho1
    unfold ObOut
    rw [ringAt_at (k.val + 1 + 1) k rfl]
    iexact Ho0
  isplitl [HY]; · iexact HY
  isplitl [HpT HpN' HpD]
  · isplitl [HpT]; · iexact HpT
    isplitl [HpN'] <;> iassumption
  isplitl [HrT HrN' HrD]
  · isplitl [HrT]; · iexact HrT
    isplitl [HrN'] <;> iassumption
  isplitl [HxT]; · iexact HxT
  isplitl [HiT HiN HiD]
  · isplitl [HiT]; · iexact HiT
    isplitl [HiN] <;> iassumption
  isplitl [HmT HmN' HmD]
  · isplitl [HmT]; · iexact HmT
    isplitl [HmN'] <;> iassumption
  isplitl [HyT HyN' HyD]
  · isplitl [HyT]; · iexact HyT
    isplitl [HyN'] <;> iassumption
  iexact HO

/-- The turns from `n` on. -/
theorem t_turns (i n : ℕ) (h : n + i ≤ 16) : iprop(ctx m κ ∗ Inv m c n)
    ⊢ iprop((Inv m c (n + i) -∗ run c K Q) -∗ run c (turns c (gammaRow (gm m c)) i n K) Q) := by
  induction i generalizing n with
  | zero =>
    unfold turns
    iintro ⟨-, H⟩ HK
    iapply HK
    iexact H
  | succ i ih =>
    have hn : n < 16 := by omega
    unfold turns when
    rw [dif_pos hn]
    iintro ⟨#Hctx, H⟩ HK
    iapply (t_turn m κ c Q _ ⟨n, hn⟩) $$ [H]
    · isplitr; · iexact Hctx
      iexact H
    iintro H
    iapply (ih (n + 1) (by omega)) $$ [H]
    · isplitr; · iexact Hctx
      iexact H
    rw [show n + 1 + i = n + (i + 1) by omega]
    iexact HK

end Cert.KernelIdeal.Norm
-- ==== Proof.KernelIdeal.Body.lean ====
/- The body as a whole: the handshake, what comes before the first turn, the sixteen turns and the tail. -/
module

public import proofs.«01_k».proof.Proof.KernelIdeal.Turn

@[expose] public section

set_option maxRecDepth 10000

noncomputable section

namespace Cert.KernelIdeal.Norm

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable (m : (ℓ : Loc nD τ sig) → Buf (Elt F) ℓ)
variable (κ : Dev nD × Option (Bool × Fin 16) → ℕ) (c : Dev nD)
variable (Q : PUnit.{1} → sProp (RM F)) (K : P F)

/-! ## Rings and families, member by member -/

theorem four (A : Fin 4 → sProp 𝕄) : bigSep Finset.univ A = iprop(A (s4 0) ∗ A (s4 1) ∗ A (s4 2) ∗ A (s4 3)) := by
  rw [bigSep_univ_eq_bigSepL [s4 0, s4 1, s4 2, s4 3] (by decide) (by decide), bigSepL_cons_cons, bigSepL_cons_cons, bigSepL_cons_cons, bigSepL_singleton]
  rfl

theorem two (A : Fin 2 → sProp 𝕄) : bigSep Finset.univ A = iprop(A (s2 0) ∗ A (s2 1)) := by
  rw [bigSep_univ_eq_bigSepL [s2 0, s2 1] (by decide) (by decide), bigSepL_cons_cons, bigSepL_singleton]
  rfl

/-! ## The handshake -/

/-- What a device owes at its start: a unit to either neighbour's barrier, and all its copies. -/
def O₁ : CellTallies nD τ sig Unit := owed c 0 0 + tallyAt (barCell (nb true c)) () 1
@[inherit_doc O₁]
def O₀ : CellTallies nD τ sig Unit := O₁ c + tallyAt (barCell (nb false c)) () 1

/-- The device's own slots for arrivals. -/
def slots (b : Bool) : sProp 𝕄 := bigSep Finset.univ fun k : Fin 16 => some' c (rb b k)

theorem slots_pay (b : Bool) : (slots c b : sProp 𝕄) = barPay b (nb b c) := by unfold slots barPay; rw [nb_nb]

/-- A unit to a neighbour's barrier, and with it the slots that the neighbour will fill. -/
theorem l_signal (b : Bool) (O O' : CellTallies nD τ sig Unit) (hO : O' = O + tallyAt (barCell (nb b c)) () 1) :
    iprop(ctx m κ ∗ slots c b ∗ dutyTok ER (barCell (nb b c)) 0 b ∗ owe c O')
    ⊢ iprop((owe c O -∗ run c K Q) -∗ run c (.op (.semSignal (nb b c, .tc) barS ((1 : ℕ) : ℤ)) fun _ => K) Q) := by
  unfold owe
  rw [slots_pay]
  iintro ⟨#Hctx, Hs, Ht, %W, HO⟩ HK
  ihave #Hcell := (ctx_cell (F := F) m κ (nb b c) none) $$ Hctx
  icases Hcell with ⟨#Hinv, #Hr⟩
  iapply (Rounds.wp_signal 𝒱₀ ER (Rd m) (c : Thread nD τ) none (dst := ((nb b c : Dev nD) : Thread nD τ)) (κ := κ (nb b c, none))
      (d := b) (by rw [duties_bar]; exact Finset.mem_univ _) ((amount_bar m (nb b c) b).trans (by decide)) () O hO)
    $$ [HO Ht Hs]
  · isplitr; · iexact Hinv
    isplitl [HO]; · iexact HO
    isplitl [Ht]; · iexact Ht
    isplitl [Hs]; · rw [payload_bar]; iexact Hs
    iexact Hr
  iintro HO
  iapply HK
  iexists W; iexact HO

/-- The two units of the neighbours: their slots. -/
theorem l_barWait : iprop(ctx m κ ∗ atPos ER (barCell c) 0 ∅ 0 ∗ cred (tallyAt (barCell c) () 2) ∗ owe c (owed c 0 0))
    ⊢ iprop((iprop(barPay false c ∗ barPay true c ∗ semVal (barCell c) 0 ∗ owe c (owed c 0 0)) -∗ run c K Q)
      -∗ run c (.op (.semWait barS ((2 : ℕ) : ℤ)) fun _ => K) Q) := by
  unfold owe
  iintro ⟨#Hctx, Hat, Hcr, %W, HO⟩ HK
  ihave #Hcell := (ctx_cell (F := F) m κ c none) $$ Hctx
  icases Hcell with ⟨#Hinv, #Hr⟩
  iapply (Rounds.wp_wait_rest_token 𝒱₀ ER (Rd m) (c : Thread nD τ) none (κ := κ (c, none))
      (wpE_semWait_eq 𝒱₀ (c : Thread nD τ) none Set.univ) (Set.mem_univ _) () (O := owed c 0 0) (W := W) (R := 0) (m := 0) (T := ∅)
      (by rw [expect_bar])) $$ [Hcr HO Hat]
  · isplitr; · iexact Hinv
    isplitl [Hcr]; · iexact Hcr
    isplitl [HO]; · iexact HO
    isplitr
    · iapply (BIBase.Entails.trans (ctx_lev (F := F) m κ)
        (mayWait (F := F) c (.reg barS) 0 0 (.inr (by rw [dec_bar]; decide)) (.inr (by rw [dec_bar]; decide)))) $$ Hctx
    iexact Hat
  iintro ⟨HO, Hat, -, Hpay⟩
  ihave Hp := (Entails.of_eq (rest_bar m c)) $$ Hpay
  icases Hp with ⟨Hp0, Hp1⟩
  imod (Rounds.cell_close ER (Rd m) (Set.mem_univ (κ (c, none))) (fun h => h) (R := 0 + 1) (fun r hr => duties_later m (barCell c) r hr)) $$ [Hat] with Hz
  · isplitr; · iexact Hinv
    iexact Hat
  iapply HK
  isplitl [Hp0]; · iexact Hp0
  isplitl [Hp1]; · iexact Hp1
  isplitl [Hz]; · iexact Hz
  iexists _; iexact HO

/-! ## Before the first turn -/

/-- The buffers at rest. -/
def Rest : sProp 𝕄 := iprop(
  (PaIdle c (s4 0) ∗ PaIdle c (s4 1) ∗ PaIdle c (s4 2) ∗ PaIdle c (s4 3))
  ∗ (XsIdle c (s4 0) ∗ XsIdle c (s4 1) ∗ XsIdle c (s4 2) ∗ XsIdle c (s4 3))
  ∗ (RsIdle c (s2 0) ∗ RsIdle c (s2 1)) ∗ (ObIdle c (s2 0) ∗ ObIdle c (s2 1)) ∗ (YcIdle c (s2 0) ∗ YcIdle c (s2 1)))

/-- The families at the start of the turns. -/
def Fam : sProp 𝕄 := iprop(
  bigSep Finset.univ (paRow m c) ∗ bigSep Finset.univ (rsRow m c) ∗ bigSep Finset.univ (pay c false) ∗ bigSep Finset.univ (inb c false)
  ∗ bigSep Finset.univ (mine c) ∗ bigSep Finset.univ (yours c))

theorem l_first : iprop(ctx m κ ∗ Rest c ∗ Fam m c ∗ owe c (owed c 0 0))
    ⊢ iprop((Inv m c 0 -∗ run c K Q)
      -∗ run c (paStart c 0 <| paStart c 1 <| paStart c 2 <| paStart c 3 <| rsStart c 0 <| stage1 c 0 <| stage1 c 1 <| stage1 c 2 K) Q) := by
  unfold Rest Fam
  iintro ⟨#Hctx, ⟨⟨Ha0, Ha1, Ha2, Ha3⟩, ⟨Hx0, Hx1, Hx2, Hx3⟩, ⟨Hr0, Hr1⟩, ⟨Ho0, Ho1⟩, ⟨Hy0, Hy1⟩⟩, ⟨Hpa, Hrs, Hpay, Hinb, Hmine, Hyours⟩, HO⟩ HK
  ihave Hpa := (Entails.of_eq (show bigSep Finset.univ (paRow m c) = iprop(paRow m c 0 ∗ paRow m c 1 ∗ paRow m c 2 ∗ paRow m c 3 ∗ todo 0 4 (paRow m c)) from by
    rw [← todo_all 0 0 _ (Nat.le_refl _), todo_take, due_at 0 0 _ 0 rfl, todo_take, due_at 0 (0 + 1) _ 1 rfl, todo_take, due_at 0 (0 + 1 + 1) _ 2 rfl,
      todo_take, due_at 0 (0 + 1 + 1 + 1) _ 3 rfl])) $$ Hpa
  icases Hpa with ⟨Hp0, Hp1, Hp2, Hp3, Hpa⟩
  ihave Hrs := (Entails.of_eq (show bigSep Finset.univ (rsRow m c) = iprop(rsRow m c 0 ∗ todo 0 1 (rsRow m c)) from by
    rw [← todo_all 0 0 _ (Nat.le_refl _), todo_take, due_at 0 0 _ 0 rfl])) $$ Hrs
  icases Hrs with ⟨Hs0, Hrs⟩
  ihave Hpay := (Entails.of_eq (show bigSep Finset.univ (pay c false) = iprop(pay c false 0 ∗ pay c false 1 ∗ pay c false 2 ∗ todo 0 3 (pay c false)) from by
    rw [← todo_all 0 0 _ (Nat.le_refl _), todo_take, due_at 0 0 _ 0 rfl, todo_take, due_at 0 (0 + 1) _ 1 rfl, todo_take, due_at 0 (0 + 1 + 1) _ 2 rfl])) $$ Hpay
  icases Hpay with ⟨Ht0, Ht1, Ht2, Hpay⟩
  iapply (l_paStart m c Q _ 0) $$ [Ha0 Hp0]
  · isplitl [Ha0] <;> iassumption
  iintro Ha0
  iapply (l_paStart m c Q _ 1) $$ [Ha1 Hp1]
  · isplitl [Ha1] <;> iassumption
  iintro Ha1
  iapply (l_paStart m c Q _ 2) $$ [Ha2 Hp2]
  · isplitl [Ha2] <;> iassumption
  iintro Ha2
  iapply (l_paStart m c Q _ 3) $$ [Ha3 Hp3]
  · isplitl [Ha3] <;> iassumption
  iintro Ha3
  iapply (l_rsStart m c Q _ 0) $$ [Hr0 Hs0]
  · isplitl [Hr0] <;> iassumption
  iintro Hr0
  iapply (l_stage1 m κ c Q _ 0 0) $$ [Ha0 Hx0 Ht0 HO]
  · isplitr; · iexact Hctx
    isplitl [Ha0]; · iexact Ha0
    isplitl [Hx0]; · unfold XsOut; rw [ringAt_out (0 : Fin 16).val (s4 0) rfl (by decide)]; iexact Hx0
    isplitl [Ht0]; · iexact Ht0
    iexact HO
  iintro ⟨Ha0, Hp0, Hx0, HO⟩
  iapply (l_stage1 m κ c Q _ 1 0) $$ [Ha1 Hx1 Ht1 HO]
  · isplitr; · iexact Hctx
    isplitl [Ha1]; · iexact Ha1
    isplitl [Hx1]; · unfold XsOut; rw [ringAt_out (1 : Fin 16).val (s4 1) rfl (by decide)]; iexact Hx1
    isplitl [Ht1]; · iexact Ht1
    iexact HO
  iintro ⟨Ha1, Hp1, Hx1, HO⟩
  iapply (l_stage1 m κ c Q _ 2 0) $$ [Ha2 Hx2 Ht2 HO]
  · isplitr; · iexact Hctx
    isplitl [Ha2]; · iexact Ha2
    isplitl [Hx2]; · unfold XsOut; rw [ringAt_out (2 : Fin 16).val (s4 2) rfl (by decide)]; iexact Hx2
    isplitl [Ht2]; · iexact Ht2
    iexact HO
  iintro ⟨Ha2, Hp2, Hx2, HO⟩
  iapply HK
  unfold Inv
  rw [done_none 0 0 (rsRow m c) (by decide), done_none 0 0 (got m c false) (by decide), done_none 2 0 (ownVal m c) (by decide), done_none 4 0 (fin m c) (by decide),
    todo_all 0 0 (inb c false) (by decide), todo_all 0 0 (mine c) (by decide), todo_all 2 0 (yours c) (by decide),
    show done 0 (0 + 3) (paRow m c) = iprop(paRow m c 2 ∗ paRow m c 1 ∗ paRow m c 0 ∗ emp) from by
      rw [done_put, due_at 0 (0 + 2) _ 2 rfl, done_put, due_at 0 (0 + 1) _ 1 rfl, done_put, due_at 0 0 _ 0 rfl, done_none 0 0 _ (by decide)]]
  isplitl [Ha0 Ha1 Ha2 Ha3]
  · unfold PaHeld PaFly
    rw [ringAt_at 0 0 rfl, ringAt_at (0 + 1) 1 rfl, ringAt_at (0 + 2) 2 rfl, ringAt_at (0 + 3) 3 rfl]
    isplitl [Ha0]; · iexact Ha0
    isplitl [Ha1]; · iexact Ha1
    isplitl [Ha2] <;> iassumption
  isplitl [Hx0 Hx1 Hx2 Hx3]
  · unfold XsRing XsOut
    rw [show min (0 + 3) 16 = 3 from rfl, ringAt_out 3 (s4 3) rfl (by decide), ringAt_at (3 + 1) 0 rfl, ringAt_at (3 + 2) 1 rfl, ringAt_at (3 + 3) 2 rfl]
    isplitl [Hx3]; · iexact Hx3
    isplitl [Hx0]; · iexact Hx0
    isplitl [Hx1] <;> iassumption
  isplitl [Hr0 Hr1]
  · unfold RsFly
    rw [ringAt_at 0 0 rfl]
    isplitl [Hr0]; · iexact Hr0
    iexact Hr1
  isplitl [Ho0 Ho1]
  · unfold ObOut
    rw [ringAt_out 0 (s2 0) rfl (by decide), ringAt_out (0 + 1) (s2 1) rfl (by decide)]
    isplitl [Ho0] <;> iassumption
  isplitl [Hy0 Hy1]
  · unfold YcOut
    rw [show max 0 2 = 2 from rfl, ringAt_out 2 (s2 0) rfl (by decide), ringAt_out (2 + 1) (s2 1) rfl (by decide)]
    isplitl [Hy0] <;> iassumption
  isplitl [Hpa Hp0 Hp1 Hp2]
  · isplitl [Hpa]; · iexact Hpa
    isplitl [Hp2]; · iexact Hp2
    isplitl [Hp1]; · iexact Hp1
    isplitl [Hp0]; · iexact Hp0
    iempintro
  isplitl [Hrs]
  · isplitl [Hrs]; · iexact Hrs
    iempintro
  isplitl [Hpay]; · iexact Hpay
  isplitl [Hinb]
  · isplitl [Hinb]; · iexact Hinb
    iempintro
  isplitl [Hmine]
  · isplitl [Hmine]; · iexact Hmine
    iempintro
  isplitl [Hyours]
  · isplitl [Hyours]; · iexact Hyours
    iempintro
  iexact HO

/-! ## After the last turn -/

/-- The families at the end: the arguments' rows as they were, the result's rows finished, every slot back. -/
def Fin' : sProp 𝕄 := iprop(
  bigSep Finset.univ (paRow m c) ∗ bigSep Finset.univ (rsRow m c) ∗ bigSep Finset.univ (got m c false)
  ∗ bigSep Finset.univ (ownVal m c) ∗ bigSep Finset.univ (fin m c))

theorem l_last : iprop(ctx m κ ∗ Inv m c 16)
    ⊢ iprop((iprop(Rest c ∗ Fin' m c ∗ owe c 0) -∗ run c K Q) -∗ run c (finish c K) Q) := by
  unfold Inv finish
  rw [todo_none 0 (16 + 4) (paRow m c) (by decide), todo_none 0 (16 + 1) (rsRow m c) (by decide), todo_none 0 (16 + 3) (pay c false) (by decide),
    todo_none 0 16 (inb c false) (by decide), todo_none 0 16 (mine c) (by decide),
    done_all 0 (16 + 3) (paRow m c) (by decide), done_all 0 16 (rsRow m c) (by decide), done_all 0 16 (got m c false) (by decide),
    show todo 2 16 (yours c) = iprop(yours c 14 ∗ yours c 15 ∗ emp) from by
      rw [todo_take, due_at 2 16 _ 14 rfl, todo_take, due_at 2 (16 + 1) _ 15 rfl, todo_none 2 (16 + 1 + 1) _ (by decide)],
    show min (16 + 3) 16 = 16 from rfl, show max 16 2 = 16 from rfl]
  iintro ⟨#Hctx, ⟨Ha0, Ha1, Ha2, Ha3⟩, HX, ⟨Hr0, Hr1⟩, ⟨Ho0, Ho1⟩, ⟨HY0, HY1⟩, ⟨-, HpD⟩, ⟨-, HrD⟩, -, ⟨-, HiD⟩, ⟨-, HmD⟩, ⟨⟨Hy14, Hy15, -⟩, HyD⟩, HO⟩ HK
  unfold XsRing
  icases HX with ⟨HX0, HX1, HX2, HX3⟩
  iapply (l_consume m κ c Q _ 14 (16 + 3) 16 (by decide) (by decide)) $$ [Hy14 HY0 HO]
  · isplitr; · iexact Hctx
    isplitl [Hy14]; · iexact Hy14
    isplitl [HY0]; · iexact HY0
    iexact HO
  iintro ⟨HY0, Hf12, HO⟩
  iapply (l_consume m κ c Q _ 15 (16 + 3) 16 (by decide) (by decide)) $$ [Hy15 HY1 HO]
  · isplitr; · iexact Hctx
    isplitl [Hy15]; · iexact Hy15
    isplitl [HY1]; · iexact HY1
    iexact HO
  iintro ⟨HY1, Hf13, HO⟩
  iapply (l_xSent m κ c Q _ 12 (16 + 3) 16) $$ [HX0 HO]
  · isplitr; · iexact Hctx
    isplitl [HX0]; · iapply (Entails.of_eq (show XsOut m c 16 = XsFlyK m c 12 from ringAt_at 16 12 rfl)) $$ HX0
    iexact HO
  iintro ⟨HX0, HO⟩
  iapply (l_xSent m κ c Q _ 13 (16 + 3) 16) $$ [HX1 HO]
  · isplitr; · iexact Hctx
    isplitl [HX1]; · iapply (Entails.of_eq (show XsOut m c (16 + 1) = XsFlyK m c 13 from ringAt_at (16 + 1) 13 rfl)) $$ HX1
    iexact HO
  iintro ⟨HX1, HO⟩
  iapply (l_xSent m κ c Q _ 14 (16 + 3) 16) $$ [HX2 HO]
  · isplitr; · iexact Hctx
    isplitl [HX2]; · iapply (Entails.of_eq (show XsOut m c (16 + 2) = XsFlyK m c 14 from ringAt_at (16 + 2) 14 rfl)) $$ HX2
    iexact HO
  iintro ⟨HX2, HO⟩
  iapply (l_xSent m κ c Q _ 15 (16 + 3) 16) $$ [HX3 HO]
  · isplitr; · iexact Hctx
    isplitl [HX3]; · iapply (Entails.of_eq (show XsOut m c (16 + 3) = XsFlyK m c 15 from ringAt_at (16 + 3) 15 rfl)) $$ HX3
    iexact HO
  iintro ⟨HX3, HO⟩
  iapply (l_obDone' m κ c Q _ 14 (16 + 3) 16) $$ [Ho0 HO]
  · isplitr; · iexact Hctx
    isplitl [Ho0]; · iapply (Entails.of_eq (show ObOut m c 16 = ObFlyK m c 14 from ringAt_at 16 14 rfl)) $$ Ho0
    iexact HO
  iintro ⟨Ho0, Hm14, HO⟩
  ihave HY0 := (Entails.of_eq (show YcOut m c ((14 : Fin 16).val + 4) = YcSt m c 14 from ringAt_at (14 + 4) 14 rfl)) $$ HY0
  unfold YcSt
  icases HY0 with ⟨HY0, Hv0⟩
  iapply (l_ycWait m κ c Q _ 14 (16 + 3) 16) $$ [HY0 Hv0 HO]
  · isplitr; · iexact Hctx
    isplitl [HY0]; · iexact HY0
    isplitl [Hv0] <;> iassumption
  iintro ⟨HY0, Hval14, Hgot14, HO⟩
  iapply (l_obDone' m κ c Q _ 15 (16 + 3) 16) $$ [Ho1 HO]
  · isplitr; · iexact Hctx
    isplitl [Ho1]; · iapply (Entails.of_eq (show ObOut m c (16 + 1) = ObFlyK m c 15 from ringAt_at (16 + 1) 15 rfl)) $$ Ho1
    iexact HO
  iintro ⟨Ho1, Hm15, HO⟩
  ihave HY1 := (Entails.of_eq (show YcOut m c ((15 : Fin 16).val + 4) = iprop(YcFlyK m c 15 ∗ sem0 c (rbSem true 15)) from ringAt_at (15 + 4) 15 rfl)) $$ HY1
  icases HY1 with ⟨HY1, Hv1⟩
  iapply (l_ycWait m κ c Q _ 15 (16 + 3) 16) $$ [HY1 Hv1 HO]
  · isplitr; · iexact Hctx
    isplitl [HY1]; · iexact HY1
    isplitl [Hv1] <;> iassumption
  iintro ⟨HY1, Hval15, Hgot15, HO⟩
  iapply HK
  unfold Rest Fin'
  rw [← done_all 2 18 (ownVal m c) (by decide), ← done_all 4 20 (fin m c) (by decide), done_put 2 17, done_put 2 16, due_at 2 17 _ 15 rfl, due_at 2 16 _ 14 rfl,
    done_put 4 19, done_put 4 18, done_put 4 17, done_put 4 16, due_at 4 19 _ 15 rfl, due_at 4 18 _ 14 rfl, due_at 4 17 _ 13 rfl, due_at 4 16 _ 12 rfl,
    owed_end c (16 + 3) 16 (by decide) (by decide)]
  isplitl [Ha0 Ha1 Ha2 Ha3 HX0 HX1 HX2 HX3 Hr0 Hr1 Ho0 Ho1 HY0 HY1]
  · isplitl [Ha0 Ha1 Ha2 Ha3]
    · isplitl [Ha0]; · iapply (Entails.of_eq (show PaHeld m c 16 = PaIdle c (s4 0) from ringAt_out 16 (s4 0) rfl (by decide))) $$ Ha0
      isplitl [Ha1]; · iapply (Entails.of_eq (show PaHeld m c (16 + 1) = PaIdle c (s4 1) from ringAt_out (16 + 1) (s4 1) rfl (by decide))) $$ Ha1
      isplitl [Ha2]; · iapply (Entails.of_eq (show PaHeld m c (16 + 2) = PaIdle c (s4 2) from ringAt_out (16 + 2) (s4 2) rfl (by decide))) $$ Ha2
      iapply (Entails.of_eq (show PaFly m c (16 + 3) = PaIdle c (s4 3) from ringAt_out (16 + 3) (s4 3) rfl (by decide))) $$ Ha3
    isplitl [HX0 HX1 HX2 HX3]
    · isplitl [HX0]; · iexact HX0
      isplitl [HX1]; · iexact HX1
      isplitl [HX2]; · iexact HX2
      iexact HX3
    isplitl [Hr0 Hr1]
    · isplitl [Hr0]; · iapply (Entails.of_eq (show RsFly m c 16 = RsIdle c (s2 0) from ringAt_out 16 (s2 0) rfl (by decide))) $$ Hr0
      iexact Hr1
    isplitl [Ho0 Ho1]
    · isplitl [Ho0]; · iexact Ho0
      iexact Ho1
    isplitl [HY0]; · iexact HY0
    iexact HY1
  isplitr [HO]
  · isplitl [HpD]; · iexact HpD
    isplitl [HrD]; · iexact HrD
    isplitl [HiD]; · iexact HiD
    isplitl [Hm14 Hm15 HmD]
    · isplitl [Hm15]; · iexact Hm15
      isplitl [Hm14] <;> iassumption
    isplitl [Hval15 Hgot15]
    · unfold fin; isplitl [Hval15] <;> iassumption
    isplitl [Hval14 Hgot14]
    · unfold fin; isplitl [Hval14] <;> iassumption
    isplitl [Hf13]; · iapply (Entails.of_eq (due_at 2 (15 : Fin 16).val (fin m c) 13 rfl)) $$ Hf13
    isplitl [Hf12]; · iapply (Entails.of_eq (due_at 2 (14 : Fin 16).val (fin m c) 12 rfl)) $$ Hf12
    iexact HyD
  iexact HO

/-! ## The body -/

/-- The window that gamma lies in. -/
abbrev gM : Memref sig .tc .vmem S4096 .f32 := Memref.whole cc0_stg0_0

theorem l_gamma (X : S4096.Idx → Elt F .f32) (G : Vec F S4096 .f32 → P F) : (owns (c : Thread nD τ) gM fullShare X : sProp 𝕄)
    ⊢ iprop((owns (c : Thread nD τ) gM fullShare X -∗ run c (G X) Q)
      -∗ run c (.op (.load gM (Rect.unit (s := S4096) ![0] S4096.size inb_S4096_S4096_0).toLoadRect (View.loadsAt_vmem h_S4096)) G) Q) := by
  unfold owns
  iintro ⟨%f, %hf, H⟩ HK
  have hv : (gM : Memref sig .tc .vmem S4096 .f32).view.readAt (Elt F) (Rect.unit (s := S4096) ![0] S4096.size inb_S4096_S4096_0).toLoadRect f = X := by
    refine (Memref.readAt_unit_zero (Elt F) cc0_stg0_0 (funext fun a => by fin_cases a <;> rfl) _ f).trans ?_
    rw [← hf]
    simp only [Memref.view_whole, View.read_whole]
  rw [← hv]
  iapply (wp_load 𝒱₀ (c : Thread nD τ) none Set.univ (m := gM) (S := (gM : Memref sig .tc .vmem S4096 .f32).view.set) (by
    simp only [Memref.view_whole, View.set_whole]; exact Finset.subset_univ _)) $$ H
  iintro H
  iapply HK
  iexists f
  isplitr; · ipureintro; rw [hv]; exact hf
  iexact H

/-- What a device has of the protocol when it starts. -/
def Ghost : sProp 𝕄 := iprop(
  (dutyTok ER (barCell (nb false c)) 0 false ∗ dutyTok ER (barCell (nb true c)) 0 true)
  ∗ (atPos ER (barCell c) 0 ∅ 0 ∗ cred (tallyAt (barCell c) () 2))
  ∗ (bigSep Finset.univ fun k : Fin 16 => dutyTok ER (recvCell false (nb false c) k) 0 false)
  ∗ (bigSep Finset.univ fun k : Fin 16 => dutyTok ER (recvCell true (nb true c) k) 0 false)
  ∗ bigSep Finset.univ (inb c false) ∗ bigSep Finset.univ (inb c true))

/-- and of buffers. -/
def Bufs : sProp 𝕄 := iprop(
  Rest c ∗ (slots c false ∗ slots c true)
  ∗ bigSep Finset.univ (paRow m c) ∗ bigSep Finset.univ (rsRow m c)
  ∗ (bigSep Finset.univ fun k : Fin 16 => some' c (outOwn c k)) ∗ (bigSep Finset.univ fun k : Fin 16 => some' c (outOther c k)))

/-- The body runs from the protocol's start to every row of the result finished, every semaphore at zero and nothing
    owed. -/
theorem l_body : iprop(ctx m κ ∗ Ghost c ∗ Bufs m c ∗ owns (c : Thread nD τ) gM fullShare (gm m c) ∗ owe c (O₀ c))
    ⊢ iprop((iprop(Rest c ∗ Fin' m c ∗ semVal (barCell c) 0 ∗ owns (c : Thread nD τ) gM fullShare (gm m c) ∗ owe c 0) -∗ Q ⟨⟩)
      -∗ run c (body gM) Q) := by
  unfold Ghost Bufs body prelude
  simp only [wp_deviceId]
  iintro ⟨#Hctx, ⟨⟨Hb0, Hb1⟩, ⟨Hat, Hcr⟩, Hd0, Hd1, Hi0, Hi1⟩, ⟨HR, ⟨Hs0, Hs1⟩, Hpa, Hrs, How, Hot⟩, Hg, HO⟩ HK
  iapply (l_signal m κ c Q _ false (O₁ c) (O₀ c) rfl) $$ [Hb0 Hs0 HO]
  · isplitr; · iexact Hctx
    isplitl [Hs0]; · iexact Hs0
    isplitl [Hb0] <;> iassumption
  iintro HO
  iapply (l_signal m κ c Q _ true (owed c 0 0) (O₁ c) rfl) $$ [Hb1 Hs1 HO]
  · isplitr; · iexact Hctx
    isplitl [Hs1]; · iexact Hs1
    isplitl [Hb1] <;> iassumption
  iintro HO
  iapply (l_barWait m κ c Q _) $$ [Hat Hcr HO]
  · isplitr; · iexact Hctx
    isplitl [Hat]; · iexact Hat
    isplitl [Hcr] <;> iassumption
  iintro ⟨Hp0, Hp1, Hz, HO⟩
  iapply (l_gamma c Q (gm m c) _) $$ Hg
  iintro Hg
  iapply (l_first m κ c Q _) $$ [HR Hpa Hrs Hp0 Hd0 Hi0 Hp1 Hd1 How Hi1 Hot HO]
  · isplitr; · iexact Hctx
    isplitl [HR]; · iexact HR
    isplitr [HO]
    · unfold Fam
      isplitl [Hpa]; · iexact Hpa
      isplitl [Hrs]; · iexact Hrs
      isplitl [Hp0 Hd0]
      · unfold pay barPay
        rw [bigSep_sep']
        isplitl [Hp0] <;> iassumption
      isplitl [Hi0]; · iexact Hi0
      isplitl [Hp1 Hd1 How]
      · unfold mine pay barPay
        rw [bigSep_sep', bigSep_sep']
        isplitl [Hp1 Hd1]; · isplitl [Hp1] <;> iassumption
        iexact How
      unfold yours
      rw [bigSep_sep']
      isplitl [Hi1]; · iexact Hi1
      iexact Hot
    iexact HO
  iintro HI
  iapply (t_turns m κ c Q _ 16 0 (by decide)) $$ [HI]
  · isplitr; · iexact Hctx
    iexact HI
  iintro HI
  iapply (l_last m κ c Q _) $$ [HI]
  · isplitr; · iexact Hctx
    iexact HI
  iintro ⟨HR, HF, HO⟩
  unfold run
  rw [wp_ret]; imodintro
  iapply HK
  isplitl [HR]; · iexact HR
  isplitl [HF]; · iexact HF
  isplitl [Hz]; · iexact Hz
  isplitl [Hg] <;> iassumption

end Cert.KernelIdeal.Norm
-- ==== Proof.KernelIdeal.Pieces.lean ====
/- Buffers and their pieces: a ring of slots taken apart and put together, the rows of an argument that the kernel
   reads taken out and put back, and the rows of the result put together to the whole. -/
module

public import proofs.«01_k».proof.Proof.KernelIdeal.Body
public import Idealize.ShloMosaic.Lib.Ring
public import Idealize.ShloMosaic.Lib.ValueIdxCore

@[expose] public section

set_option maxRecDepth 10000

noncomputable section

namespace Cert.KernelIdeal.Norm

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (m : (ℓ : Loc nD τ sig) → Buf (Elt F) ℓ)
variable (c : Dev nD)

/-! ## One piece -/

/-- Two contents that read alike through a view agree on its elements. -/
theorem eq_on_of_read {sp : Space} {s : Shape} {e : EltTy} (M : Memref sig .tc sp s e) {f g : M.view.ty.Contents (Elt F)}
    (h : M.view.read (Elt F) f = M.view.read (Elt F) g) : ∀ i ∈ M.view.set, f i = g i := by
  intro i hi
  obtain ⟨j, -, rfl⟩ := Finset.mem_map.1 hi
  have hj := congrFun h j
  rw [View.read_apply, View.read_apply] at hj
  exact (cast_inj _).1 hj

variable {sp : Space} {s : Shape} {e : EltTy} (M : Memref sig .tc sp s e)

/-- Elements of a buffer are a memref with some contents, -/
theorem some_of (f : Buf (Elt F) (M.view.loc (c : Thread nD τ))) :
    (M.view.loc (c : Thread nD τ) ↦[M.view.set]{fullShare} f : sProp 𝕄) ⊢ some' c M := by
  unfold some'
  iintro H
  iexists _
  iapply (owns_intro c M fullShare rfl) $$ H

/-- and the other way round. -/
theorem of_some : (some' c M : sProp 𝕄) ⊢ iprop(∃ f, M.view.loc (c : Thread nD τ) ↦[M.view.set]{fullShare} f) := by
  unfold some' owns
  iintro ⟨%X, %f, -, H⟩
  iexists f
  iexact H

/-- A memref that reads as a buffer does holds the buffer's elements. -/
theorem of_owns (f : Buf (Elt F) (M.view.loc (c : Thread nD τ))) :
    (owns (c : Thread nD τ) M fullShare (M.view.read (Elt F) f) : sProp 𝕄) ⊢ (M.view.loc (c : Thread nD τ) ↦[M.view.set]{fullShare} f) := by
  unfold owns
  iintro ⟨%g, %hg, H⟩
  iapply (Entails.of_eq (pointsTo_congr (eq_on_of_read M hg))) $$ H

/-! ## A ring of slots -/

theorem ring_open {ℓ : Loc nD τ sig} {n : ℕ} (I : Fin n → Finset (Idx ℓ)) (A : Fin n → sProp 𝕄)
    (hd : ∀ b b', b ≠ b' → Disjoint (I b) (I b')) (hc : Finset.univ.biUnion I = Finset.univ)
    (h : ∀ (b : Fin n) (f : Buf (Elt F) ℓ), (ℓ ↦[I b]{fullShare} f : sProp 𝕄) ⊢ A b) :
    (iprop(∃ f : Buf (Elt F) ℓ, ℓ ↦{fullShare} f) : sProp 𝕄) ⊢ bigSep Finset.univ A := by
  have hf (f : Buf (Elt F) ℓ) : (ℓ ↦{fullShare} f : sProp 𝕄) ⊢ bigSep Finset.univ A := by
    rw [Ring.pointsTo_blocks I hd hc f]
    exact bigSep_mono fun b _ => h b f
  iintro ⟨%f, H⟩
  iapply (hf f) $$ H

theorem ring_close {ℓ : Loc nD τ sig} {n : ℕ} (I : Fin n → Finset (Idx ℓ)) (A : Fin n → sProp 𝕄)
    (hd : ∀ b b', b ≠ b' → Disjoint (I b) (I b')) (hc : Finset.univ.biUnion I = Finset.univ)
    (f₀ : Buf (Elt F) ℓ) (h : ∀ b : Fin n, A b ⊢ (iprop(∃ f : Buf (Elt F) ℓ, ℓ ↦[I b]{fullShare} f) : sProp 𝕄)) :
    bigSep Finset.univ A ⊢ (iprop(∃ f : Buf (Elt F) ℓ, ℓ ↦{fullShare} f) : sProp 𝕄) := by
  have hm : bigSep Finset.univ A ⊢ (bigSep Finset.univ fun b => iprop(∃ f : Buf (Elt F) ℓ, ℓ ↦[I b]{fullShare} f) : sProp 𝕄) :=
    bigSep_mono fun b _ => h b
  exact BIBase.Entails.trans hm (Ring.pointsTo_blocks_join_exists I hd hc f₀)

/-- Slots with different numbers have no element in common, -/
theorem slot_disjoint {n : ℕ} (inb : ∀ t : Fin n, ∀ a, (![t.val, 0, 0] : Fin 3 → Nat) a + S1x128x4096.size a ≤ (⟨3, ![n, 128, 4096]⟩ : Shape).size a)
    (t t' : Fin n) (h : t ≠ t') :
    Disjoint (Rect.unit (s := ⟨3, ![n, 128, 4096]⟩) ![t.val, 0, 0] S1x128x4096.size (inb t)).set
      (Rect.unit (s := ⟨3, ![n, 128, 4096]⟩) ![t'.val, 0, 0] S1x128x4096.size (inb t')).set := by
  refine Rect.unit_disjoint 0 ?_
  have hv : t.val ≠ t'.val := fun e => h (Fin.ext e)
  show t.val + 1 ≤ t'.val ∨ t'.val + 1 ≤ t.val
  omega

/-- and together they are the buffer. -/
theorem slot_cover {n : ℕ} (inb : ∀ t : Fin n, ∀ a, (![t.val, 0, 0] : Fin 3 → Nat) a + S1x128x4096.size a ≤ (⟨3, ![n, 128, 4096]⟩ : Shape).size a) :
    (Finset.univ.biUnion fun t : Fin n => (Rect.unit (s := ⟨3, ![n, 128, 4096]⟩) ![t.val, 0, 0] S1x128x4096.size (inb t)).set) = Finset.univ := by
  refine Finset.eq_univ_iff_forall.2 fun i => Finset.mem_biUnion.2 ⟨i 0, Finset.mem_univ _, Rect.mem_set_unit.2 fun a => ?_⟩
  match a with
  | ⟨0, _⟩ => exact ⟨Nat.le_refl _, Nat.lt_succ_self _⟩
  | ⟨1, _⟩ => exact ⟨Nat.zero_le _, by show (i 1).val < 0 + 128; have h : (i 1).val < 128 := (i 1).isLt; omega⟩
  | ⟨2, _⟩ => exact ⟨Nat.zero_le _, by show (i 2).val < 0 + 4096; have h : (i 2).val < 4096 := (i 2).isLt; omega⟩

theorem set_pa (t : Fin 4) : (pa t).view.set = (r4 t).set := (View.set_reshape _ _).trans (View.set_slice_whole _ _)
theorem set_xs (t : Fin 4) : (xs t).view.set = (r4 t).set := (View.set_reshape _ _).trans (View.set_slice_whole _ _)
theorem set_rs (t : Fin 2) : (rs t).view.set = (r2 t).set := (View.set_reshape _ _).trans (View.set_slice_whole _ _)
theorem set_ob (t : Fin 2) : (ob t).view.set = (r2 t).set := (View.set_reshape _ _).trans (View.set_slice_whole _ _)
theorem set_xr (t : Fin 16) : (xr t).view.set = (r16 t).set := (View.set_reshape _ _).trans (View.set_slice_whole _ _)
theorem set_yr (t : Fin 16) : (yr t).view.set = (r16 t).set := (View.set_reshape _ _).trans (View.set_slice_whole _ _)

/-- The buffer `b` of device `c`, whole, at some contents. -/
abbrev any (b : Ref sig .tc) : sProp 𝕄 :=
  iprop(∃ f : Buf (Elt F) ((c : Thread nD τ).loc b), ((c : Thread nD τ).loc b) ↦{fullShare} f)

/-! Every ring is its slots, each with some contents. -/

theorem pa_open : any (F := F) c cc0_scratch0 ⊢ bigSep Finset.univ fun t => some' (F := F) c (pa t) :=
  ring_open (ℓ := (c : Thread nD τ).loc cc0_scratch0) (fun t => (r4 t).set) _ (slot_disjoint inb4) (slot_cover inb4)
    fun t f => by rw [← set_pa t]; exact some_of (F := F) c (pa t) f
include m in
theorem pa_close : (bigSep Finset.univ fun t => some' (F := F) c (pa t)) ⊢ any (F := F) c cc0_scratch0 :=
  ring_close (ℓ := (c : Thread nD τ).loc cc0_scratch0) (fun t => (r4 t).set) _ (slot_disjoint inb4) (slot_cover inb4) (m _)
    fun t => by rw [← set_pa t]; exact of_some (F := F) c (pa t)
theorem rs_open : any (F := F) c cc0_scratch1 ⊢ bigSep Finset.univ fun t => some' (F := F) c (rs t) :=
  ring_open (ℓ := (c : Thread nD τ).loc cc0_scratch1) (fun t => (r2 t).set) _ (slot_disjoint inb2) (slot_cover inb2)
    fun t f => by rw [← set_rs t]; exact some_of (F := F) c (rs t) f
include m in
theorem rs_close : (bigSep Finset.univ fun t => some' (F := F) c (rs t)) ⊢ any (F := F) c cc0_scratch1 :=
  ring_close (ℓ := (c : Thread nD τ).loc cc0_scratch1) (fun t => (r2 t).set) _ (slot_disjoint inb2) (slot_cover inb2) (m _)
    fun t => by rw [← set_rs t]; exact of_some (F := F) c (rs t)
theorem ob_open : any (F := F) c cc0_scratch2 ⊢ bigSep Finset.univ fun t => some' (F := F) c (ob t) :=
  ring_open (ℓ := (c : Thread nD τ).loc cc0_scratch2) (fun t => (r2 t).set) _ (slot_disjoint inb2) (slot_cover inb2)
    fun t f => by rw [← set_ob t]; exact some_of (F := F) c (ob t) f
include m in
theorem ob_close : (bigSep Finset.univ fun t => some' (F := F) c (ob t)) ⊢ any (F := F) c cc0_scratch2 :=
  ring_close (ℓ := (c : Thread nD τ).loc cc0_scratch2) (fun t => (r2 t).set) _ (slot_disjoint inb2) (slot_cover inb2) (m _)
    fun t => by rw [← set_ob t]; exact of_some (F := F) c (ob t)
theorem xs_open : any (F := F) c cc0_scratch3 ⊢ bigSep Finset.univ fun t => some' (F := F) c (xs t) :=
  ring_open (ℓ := (c : Thread nD τ).loc cc0_scratch3) (fun t => (r4 t).set) _ (slot_disjoint inb4) (slot_cover inb4)
    fun t f => by rw [← set_xs t]; exact some_of (F := F) c (xs t) f
include m in
theorem xs_close : (bigSep Finset.univ fun t => some' (F := F) c (xs t)) ⊢ any (F := F) c cc0_scratch3 :=
  ring_close (ℓ := (c : Thread nD τ).loc cc0_scratch3) (fun t => (r4 t).set) _ (slot_disjoint inb4) (slot_cover inb4) (m _)
    fun t => by rw [← set_xs t]; exact of_some (F := F) c (xs t)
theorem xr_open : any (F := F) c cc0_scratch4 ⊢ bigSep Finset.univ fun t => some' (F := F) c (xr t) :=
  ring_open (ℓ := (c : Thread nD τ).loc cc0_scratch4) (fun t => (r16 t).set) _ (slot_disjoint inb16) (slot_cover inb16)
    fun t f => by rw [← set_xr t]; exact some_of (F := F) c (xr t) f
include m in
theorem xr_close : (bigSep Finset.univ fun t => some' (F := F) c (xr t)) ⊢ any (F := F) c cc0_scratch4 :=
  ring_close (ℓ := (c : Thread nD τ).loc cc0_scratch4) (fun t => (r16 t).set) _ (slot_disjoint inb16) (slot_cover inb16) (m _)
    fun t => by rw [← set_xr t]; exact of_some (F := F) c (xr t)
theorem yr_open : any (F := F) c cc0_scratch5 ⊢ bigSep Finset.univ fun t => some' (F := F) c (yr t) :=
  ring_open (ℓ := (c : Thread nD τ).loc cc0_scratch5) (fun t => (r16 t).set) _ (slot_disjoint inb16) (slot_cover inb16)
    fun t f => by rw [← set_yr t]; exact some_of (F := F) c (yr t) f
include m in
theorem yr_close : (bigSep Finset.univ fun t => some' (F := F) c (yr t)) ⊢ any (F := F) c cc0_scratch5 :=
  ring_close (ℓ := (c : Thread nD τ).loc cc0_scratch5) (fun t => (r16 t).set) _ (slot_disjoint inb16) (slot_cover inb16) (m _)
    fun t => by rw [← set_yr t]; exact of_some (F := F) c (yr t)

/-! ## The rows of an argument -/

theorem set_paSrc (k : Fin 16) : (paSrc c k).view.set = (Rect.unit (s := S1x4096x4096) (k0_off1 c (BitVec.ofNat 32 (128 * k.val)))
    S1x128x4096.size (k0_off1_inb c k)).set := (View.set_reshape _ _).trans (View.set_slice_whole _ _)
/-- The rows of chunk `k` of the half that device `c` finishes, -/
abbrev rectOwn (k : Fin 16) : Rect S4096x4096 :=
  Rect.unit (s := S4096x4096) (k0_off2 c (BitVec.ofNat 32 (128 * k.val))) S128x4096.size (k0_off2_inb c k)
/-- and of the half that its y-neighbour does. -/
abbrev rectOther (k : Fin 16) : Rect S4096x4096 :=
  Rect.unit (s := S4096x4096) (k0_off3 c (BitVec.ofNat 32 (128 * k.val))) S128x4096.size (k0_off3_inb c k)
theorem set_rsSrc (k : Fin 16) : (rsSrc c k).view.set = (rectOwn c k).set := View.set_slice_whole _ _
theorem set_outOwn (k : Fin 16) : (outOwn c k).view.set = (rectOwn c k).set := View.set_slice_whole _ _
theorem set_outOther (k : Fin 16) : (outOther c k).view.set = (rectOther c k).set := View.set_slice_whole _ _

theorem mem_own (k : Fin 16) (i : S4096x4096.Idx) : i ∈ (rectOwn c k).set ↔ (i 0).val / 128 = 16 * ((c.val / 4) % 2) + k.val := by
  have h1 : (i 1).val < 4096 := (i 1).isLt
  unfold rectOwn
  rw [Rect.mem_set_unit, k0_off2_eq]
  constructor
  · intro h
    have h0 := h 0
    change 2048 * ((c.val / 4) % 2) + 128 * k.val ≤ (i 0).val ∧ (i 0).val < 2048 * ((c.val / 4) % 2) + 128 * k.val + 128 at h0
    omega
  · intro h a
    match a with
    | ⟨0, _⟩ =>
      show 2048 * ((c.val / 4) % 2) + 128 * k.val ≤ (i 0).val ∧ (i 0).val < 2048 * ((c.val / 4) % 2) + 128 * k.val + 128
      omega
    | ⟨1, _⟩ => exact ⟨Nat.zero_le _, by show (i 1).val < 0 + 4096; omega⟩

theorem mem_other (k : Fin 16) (i : S4096x4096.Idx) :
    i ∈ (rectOther c k).set ↔ (i 0).val / 128 = 16 * (1 - (c.val / 4) % 2) + k.val := by
  have h1 : (i 1).val < 4096 := (i 1).isLt
  unfold rectOther
  rw [Rect.mem_set_unit, k0_off3_eq]
  constructor
  · intro h
    have h0 := h 0
    change 128 * k.val + 2048 - 2048 * ((c.val / 4) % 2) ≤ (i 0).val ∧ (i 0).val < 128 * k.val + 2048 - 2048 * ((c.val / 4) % 2) + 128 at h0
    omega
  · intro h a
    match a with
    | ⟨0, _⟩ =>
      show 128 * k.val + 2048 - 2048 * ((c.val / 4) % 2) ≤ (i 0).val ∧ (i 0).val < 128 * k.val + 2048 - 2048 * ((c.val / 4) % 2) + 128
      omega
    | ⟨1, _⟩ => exact ⟨Nat.zero_le _, by show (i 1).val < 0 + 4096; omega⟩

theorem own_disjoint (k k' : Fin 16) (h : k ≠ k') : Disjoint (rectOwn c k).set (rectOwn c k').set :=
  Finset.disjoint_left.2 fun i hi hi' => h (Fin.ext (by have a := (mem_own c k i).1 hi; have b := (mem_own c k' i).1 hi'; omega))

theorem other_disjoint (k k' : Fin 16) (h : k ≠ k') : Disjoint (rectOther c k).set (rectOther c k').set :=
  Finset.disjoint_left.2 fun i hi hi' => h (Fin.ext (by have a := (mem_other c k i).1 hi; have b := (mem_other c k' i).1 hi'; omega))

theorem paSrc_disjoint (k k' : Fin 16) (h : k ≠ k') : Disjoint (paSrc c k).view.set (paSrc c k').view.set := by
  rw [set_paSrc, set_paSrc]
  refine Rect.unit_disjoint 1 ?_
  rw [k0_off1_eq, k0_off1_eq]
  have hv : k.val ≠ k'.val := fun e => h (Fin.ext e)
  show 2048 * ((c.val / 4) % 2) + 128 * k.val + 128 ≤ 2048 * ((c.val / 4) % 2) + 128 * k'.val
    ∨ 2048 * ((c.val / 4) % 2) + 128 * k'.val + 128 ≤ 2048 * ((c.val / 4) % 2) + 128 * k.val
  omega

/-- The rows of the partial sums that device `c` does not read; -/
def paKeep : sProp 𝕄 :=
  (c : Thread nD τ).loc main_arg0 ↦[Finset.univ \ Finset.univ.biUnion fun k => (paSrc c k).view.set]{fullShare} m ((c : Thread nD τ).loc main_arg0)
/-- the rows of the residual that it does not read. -/
def rsKeep : sProp 𝕄 :=
  (c : Thread nD τ).loc main_arg1 ↦[Finset.univ \ Finset.univ.biUnion fun k => (rsSrc c k).view.set]{fullShare} m ((c : Thread nD τ).loc main_arg1)

theorem paRow_eq (k : Fin 16) : (paRow m c k : sProp 𝕄)
    = ((c : Thread nD τ).loc main_arg0 ↦[(paSrc c k).view.set]{fullShare} m ((c : Thread nD τ).loc main_arg0)) := by
  unfold paRow pc
  exact BI.Entails.antisymm (of_owns c (paSrc c k) _) (owns_intro c (paSrc c k) fullShare rfl)

theorem rsRow_eq (k : Fin 16) : (rsRow m c k : sProp 𝕄)
    = ((c : Thread nD τ).loc main_arg1 ↦[(rsSrc c k).view.set]{fullShare} m ((c : Thread nD τ).loc main_arg1)) := by
  unfold rsRow rc
  exact BI.Entails.antisymm (of_owns c (rsSrc c k) _) (owns_intro c (rsSrc c k) fullShare rfl)

/-- An argument is the rows that the device reads and the others. -/
theorem pa_rows : ((c : Thread nD τ).loc main_arg0 ↦{fullShare} m ((c : Thread nD τ).loc main_arg0) : sProp 𝕄)
    ⊣⊢ iprop(bigSep Finset.univ (paRow m c) ∗ paKeep m c) := by
  rw [show bigSep Finset.univ (paRow m c) = ((c : Thread nD τ).loc main_arg0 ↦[Finset.univ.biUnion fun k => (paSrc c k).view.set]{fullShare}
      m ((c : Thread nD τ).loc main_arg0) : sProp 𝕄) from by
    rw [Ring.pointsTo_sub_blocks (ℓ := (c : Thread nD τ).loc main_arg0) (fun k => (paSrc c k).view.set) (paSrc_disjoint c) _ rfl]
    exact bigSep_congr fun k _ => paRow_eq m c k]
  exact pointsTo_split_subset (Finset.subset_univ _)

theorem rs_rows : ((c : Thread nD τ).loc main_arg1 ↦{fullShare} m ((c : Thread nD τ).loc main_arg1) : sProp 𝕄)
    ⊣⊢ iprop(bigSep Finset.univ (rsRow m c) ∗ rsKeep m c) := by
  rw [show bigSep Finset.univ (rsRow m c) = ((c : Thread nD τ).loc main_arg1 ↦[Finset.univ.biUnion fun k => (rsSrc c k).view.set]{fullShare}
      m ((c : Thread nD τ).loc main_arg1) : sProp 𝕄) from by
    rw [Ring.pointsTo_sub_blocks (ℓ := (c : Thread nD τ).loc main_arg1) (fun k => (rsSrc c k).view.set)
      (fun k k' h => by rw [set_rsSrc, set_rsSrc]; exact own_disjoint c k k' h) _ rfl]
    exact bigSep_congr fun k _ => rsRow_eq m c k]
  exact pointsTo_split_subset (Finset.subset_univ _)

/-! ## The rows of the result -/

/-- The result, element by element: an element of the device's own half is one of its own chunks, another one of
    its y-neighbour's. -/
def outAll : S4096x4096.Idx → Elt F .bf16 := fun i =>
  (if (i 0).val / 2048 = (c.val / 4) % 2 then oval m c ⟨(i 0).val / 128 % 16, Nat.mod_lt _ (by decide)⟩
    else oval m (nb true c) ⟨(i 0).val / 128 % 16, Nat.mod_lt _ (by decide)⟩)
  (ValueIdx.ix2 ⟨(i 0).val % 128, Nat.mod_lt _ (by decide)⟩ (i 1))

theorem outAll_own (k : Fin 16) : (outOwn c k).view.read (Elt F) (outAll m c) = oval m c k := by
  funext j
  have h0 : (((rectOwn c k).emb j) 0).val = 2048 * ((c.val / 4) % 2) + 128 * k.val + (j 0).val := by
    rw [Rect.emb_apply]; show k0_off2 c (BitVec.ofNat 32 (128 * k.val)) 0 + 1 * (j 0).val = _; rw [k0_off2_eq, Nat.one_mul]; rfl
  have h1 : (((rectOwn c k).emb j) 1).val = (j 1).val := by
    rw [Rect.emb_apply]; show k0_off2 c (BitVec.ofNat 32 (128 * k.val)) 1 + 1 * (j 1).val = _; rw [k0_off2_eq, Nat.one_mul]; exact Nat.zero_add _
  have hj : (j 0).val < 128 := (j 0).isLt
  have hk : (⟨(((rectOwn c k).emb j) 0).val / 128 % 16, Nat.mod_lt _ (by decide)⟩ : Fin 16) = k :=
    Fin.ext (by show (((rectOwn c k).emb j) 0).val / 128 % 16 = k.val; omega)
  show outAll m c ((rectOwn c k).emb j) = _
  unfold outAll
  rw [if_pos (by omega), hk]
  congr 1
  funext a
  match a with
  | ⟨0, _⟩ => exact Fin.ext (by show _ % 128 = (j 0).val; omega)
  | ⟨1, _⟩ => exact Fin.ext h1

theorem outAll_other (k : Fin 16) : (outOther c k).view.read (Elt F) (outAll m c) = rval m true c k := by
  funext j
  have h0 : (((rectOther c k).emb j) 0).val = 128 * k.val + 2048 - 2048 * ((c.val / 4) % 2) + (j 0).val := by
    rw [Rect.emb_apply]; show k0_off3 c (BitVec.ofNat 32 (128 * k.val)) 0 + 1 * (j 0).val = _; rw [k0_off3_eq, Nat.one_mul]; rfl
  have h1 : (((rectOther c k).emb j) 1).val = (j 1).val := by
    rw [Rect.emb_apply]; show k0_off3 c (BitVec.ofNat 32 (128 * k.val)) 1 + 1 * (j 1).val = _; rw [k0_off3_eq, Nat.one_mul]; exact Nat.zero_add _
  have hj : (j 0).val < 128 := (j 0).isLt
  have hk : (⟨(((rectOther c k).emb j) 0).val / 128 % 16, Nat.mod_lt _ (by decide)⟩ : Fin 16) = k :=
    Fin.ext (by show (((rectOther c k).emb j) 0).val / 128 % 16 = k.val; omega)
  show outAll m c ((rectOther c k).emb j) = oval m (nb true c) k j
  unfold outAll
  rw [if_neg (by omega), hk]
  congr 1
  funext a
  match a with
  | ⟨0, _⟩ => exact Fin.ext (by show _ % 128 = (j 0).val; omega)
  | ⟨1, _⟩ => exact Fin.ext h1

/-- The rows that the y-neighbour finishes are all but the device's own. -/
theorem other_cover : (Finset.univ.biUnion fun k => (rectOther c k).set) = Finset.univ \ Finset.univ.biUnion fun k => (rectOwn c k).set := by
  ext i
  have hi : (i 0).val < 4096 := (i 0).isLt
  simp only [Finset.mem_biUnion, Finset.mem_univ, _root_.true_and, Finset.mem_sdiff, mem_own, mem_other]
  constructor
  · rintro ⟨k, hk⟩ ⟨k', hk'⟩; omega
  · intro h
    refine ⟨⟨(i 0).val / 128 % 16, Nat.mod_lt _ (by decide)⟩, ?_⟩
    by_contra hne
    exact h ⟨⟨(i 0).val / 128 % 16, Nat.mod_lt _ (by decide)⟩, by simp only at hne ⊢; omega⟩

/-- The result is the device's own chunks and its y-neighbour's. -/
theorem out_rows (f : Buf (Elt F) ((c : Thread nD τ).loc main_v1)) : ((c : Thread nD τ).loc main_v1 ↦{fullShare} f : sProp 𝕄)
    ⊣⊢ iprop((bigSep Finset.univ fun k => (c : Thread nD τ).loc main_v1 ↦[(rectOwn c k).set]{fullShare} f)
      ∗ bigSep Finset.univ fun k => (c : Thread nD τ).loc main_v1 ↦[(rectOther c k).set]{fullShare} f) := by
  rw [← Ring.pointsTo_sub_blocks (ℓ := (c : Thread nD τ).loc main_v1) (fun k => (rectOwn c k).set) (own_disjoint c) _ rfl,
    ← Ring.pointsTo_sub_blocks (ℓ := (c : Thread nD τ).loc main_v1) (fun k => (rectOther c k).set) (other_disjoint c) _ (other_cover c)]
  exact pointsTo_split_subset (Finset.subset_univ _)

theorem out_open (f : Buf (Elt F) ((c : Thread nD τ).loc main_v1)) : ((c : Thread nD τ).loc main_v1 ↦{fullShare} f : sProp 𝕄)
    ⊢ iprop((bigSep Finset.univ fun k => some' (F := F) c (outOwn c k)) ∗ (bigSep Finset.univ fun k => some' (F := F) c (outOther c k))) :=
  BIBase.Entails.trans (out_rows c f).1 (BIClass.sep_mono
    (bigSep_mono fun k _ => by rw [← set_outOwn c k]; exact some_of c (outOwn c k) f)
    (bigSep_mono fun k _ => by rw [← set_outOther c k]; exact some_of c (outOther c k) f))

theorem out_close : iprop(bigSep Finset.univ (ownVal m c) ∗ bigSep Finset.univ (otherVal m c))
    ⊢ ((c : Thread nD τ).loc main_v1 ↦{fullShare} outAll m c : sProp 𝕄) :=
  BIBase.Entails.trans (BIClass.sep_mono
    (bigSep_mono fun k _ => by rw [← set_outOwn c k]; unfold ownVal; rw [← outAll_own m c k]; exact of_owns c (outOwn c k) _)
    (bigSep_mono fun k _ => by rw [← set_outOther c k]; unfold otherVal; rw [← outAll_other m c k]; exact of_owns c (outOther c k) _))
    (out_rows c (outAll m c)).2

end Cert.KernelIdeal.Norm
-- ==== Proof.KernelIdeal.Region.lean ====
/- The kernel's region: what a device's invariant is before and after the body, the buffers that the launch hands over
   taken apart for the body and put together after it, and the body's obligation. -/
module

public import proofs.«01_k».proof.Proof.KernelIdeal.Pieces
public import Idealize.ShloMosaic.Lib.Pipeline.Launch
public import Idealize.ShloMosaic.Lib.Pipeline.Kit

@[expose] public section

set_option maxRecDepth 10000

noncomputable section

namespace Cert.KernelIdeal.Norm

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)
variable (c : Dev nD)

/-! ## The kernel's own semaphores -/

/-- The kernel's own semaphores by what they are for: arrivals from either neighbour, and the six kinds of copies that
    a device waits for itself. -/
abbrev Own : Type := Fin 16 ⊕ (Fin 16 ⊕ (Fin 4 ⊕ (Fin 4 ⊕ (Fin 2 ⊕ (Fin 2 ⊕ (Fin 2 ⊕ Fin 2))))))

def osem : Own → SemLoc sig
  | .inl k => .dma (rbSem false k)
  | .inr (.inl k) => .dma (rbSem true k)
  | .inr (.inr (.inl t)) => .dma (paSem t)
  | .inr (.inr (.inr (.inl t))) => .dma (xsSem t)
  | .inr (.inr (.inr (.inr (.inl t)))) => .dma (rsSem t)
  | .inr (.inr (.inr (.inr (.inr (.inl t))))) => .dma (obSem t)
  | .inr (.inr (.inr (.inr (.inr (.inr (.inl t)))))) => .dma (ysSem t)
  | .inr (.inr (.inr (.inr (.inr (.inr (.inr t)))))) => .dma (ycSem t)

set_option synthInstance.maxSize 2000 in
set_option synthInstance.maxHeartbeats 200000 in
theorem ownSemFacts : Pipeline.OwnSemFacts cfg0.spec osem := by decide +kernel

/-- The semaphores of the copies that a device waits for itself, at zero. -/
def locals : sProp 𝕄 := iprop(
  (bigSep Finset.univ fun t => sem0 (F := F) c (paSem t)) ∗ (bigSep Finset.univ fun t => sem0 (F := F) c (xsSem t))
  ∗ (bigSep Finset.univ fun t => sem0 (F := F) c (rsSem t)) ∗ (bigSep Finset.univ fun t => sem0 (F := F) c (obSem t))
  ∗ (bigSep Finset.univ fun t => sem0 (F := F) c (ysSem t)) ∗ (bigSep Finset.univ fun t => sem0 (F := F) c (ycSem t)))

/-- The arrivals' semaphores of a direction, at zero. -/
def arrive (b : Bool) : sProp 𝕄 := bigSep Finset.univ fun k => sem0 (F := F) c (rbSem b k)

theorem ownSems_eq : (Pipeline.ownSems0 (Ix := Unit) (Name := ℕ) (U := UU) (Lvl := ℕ) (Val := Elt F) (τ := τ) osem c : sProp 𝕄)
    = iprop(arrive c false ∗ arrive c true ∗ locals c) := by
  unfold Pipeline.ownSems0 arrive locals
  rw [bigSep_univ_sum, bigSep_univ_sum, bigSep_univ_sum, bigSep_univ_sum, bigSep_univ_sum, bigSep_univ_sum, bigSep_univ_sum]
  rfl

theorem unscoped_eq : (unscopedSems0 c : sProp 𝕄) = semVal (barCell c) 0 := by
  unfold unscopedSems0; rw [bigSep_eq_bigSepL_of_eq [SemLoc.reg barS] (by decide) (by decide)]; rfl

/-! ## Buffers -/

/-- The buffers at rest are the rings' slots and the semaphores at zero. -/
theorem rest_eq : (Rest c : sProp 𝕄) = iprop(
    ((bigSep Finset.univ fun t => some' (F := F) c (pa t)) ∗ (bigSep Finset.univ fun t => sem0 (F := F) c (paSem t)))
    ∗ ((bigSep Finset.univ fun t => some' (F := F) c (xs t)) ∗ (bigSep Finset.univ fun t => sem0 (F := F) c (xsSem t)))
    ∗ ((bigSep Finset.univ fun t => some' (F := F) c (rs t)) ∗ (bigSep Finset.univ fun t => sem0 (F := F) c (rsSem t)))
    ∗ ((bigSep Finset.univ fun t => some' (F := F) c (ob t)) ∗ (bigSep Finset.univ fun t => sem0 (F := F) c (obSem t))
      ∗ (bigSep Finset.univ fun t => sem0 (F := F) c (ysSem t)))
    ∗ (bigSep Finset.univ fun t => sem0 (F := F) c (ycSem t))) := by
  unfold Rest
  rw [← four (PaIdle c), ← four (XsIdle c), ← two (RsIdle c), ← two (ObIdle c), ← two (YcIdle c)]
  unfold PaIdle XsIdle RsIdle ObIdle YcIdle
  simp only [bigSep_sep']

/-- The arguments that the region's windows do not stage, as the program found them. -/
def args : sProp 𝕄 := iprop(
  ((c : Thread nD τ).loc main_arg0 ↦{fullShare} m ((c : Thread nD τ).loc main_arg0))
  ∗ ((c : Thread nD τ).loc main_arg1 ↦{fullShare} m ((c : Thread nD τ).loc main_arg1)))

/-- The rows of the arguments that the kernel does not read. -/
def keep : sProp 𝕄 := iprop(paKeep m c ∗ rsKeep m c)

/-- What the launch hands over is what the body starts from. -/
theorem enter : iprop(locals c ∗ Pipeline.scopedRest spec0 c ∗ args m c
      ∗ ((c : Thread nD τ).loc main_v1 ↦{fullShare} m ((c : Thread nD τ).loc main_v1)))
    ⊢ (iprop(Bufs m c ∗ keep m c) : sProp 𝕄) := by
  rw [scopedRest0_eq]
  unfold locals args Bufs keep slots
  rw [rest_eq]
  iintro ⟨⟨Hpa, Hxs, Hrs, Hob, Hys, Hyc⟩, ⟨B0, B1, B2, B3, B4, B5⟩, ⟨A0, A1⟩, V⟩
  ihave B0 := (pa_open (F := F) c) $$ B0
  ihave B1 := (rs_open (F := F) c) $$ B1
  ihave B2 := (ob_open (F := F) c) $$ B2
  ihave B3 := (xs_open (F := F) c) $$ B3
  ihave B4 := (xr_open (F := F) c) $$ B4
  ihave B5 := (yr_open (F := F) c) $$ B5
  ihave A0 := (pa_rows m c).1 $$ A0
  icases A0 with ⟨A0, K0⟩
  ihave A1 := (rs_rows m c).1 $$ A1
  icases A1 with ⟨A1, K1⟩
  ihave V := (out_open c _) $$ V
  icases V with ⟨V0, V1⟩
  isplitr [K0 K1]
  · isplitl [Hpa Hxs Hrs Hob Hys Hyc B0 B1 B2 B3]
    · isplitl [B0 Hpa]; · isplitl [B0] <;> iassumption
      isplitl [B3 Hxs]; · isplitl [B3] <;> iassumption
      isplitl [B1 Hrs]; · isplitl [B1] <;> iassumption
      isplitl [B2 Hob Hys]
      · isplitl [B2]; · iexact B2
        isplitl [Hob] <;> iassumption
      iexact Hyc
    isplitl [B4 B5]
    · isplitl [B4]; · iexact B4
      iexact B5
    isplitl [A0]; · iexact A0
    isplitl [A1]; · iexact A1
    isplitl [V0] <;> iassumption
  · isplitl [K0] <;> iassumption

theorem got_split (b : Bool) : (bigSep Finset.univ (got m c b) : sProp 𝕄)
    ⊢ iprop((bigSep Finset.univ fun k => some' (F := F) c (rb b k)) ∗ arrive c b) := by
  unfold got arrive
  rw [bigSep_sep']
  exact BIClass.sep_mono (bigSep_mono fun k _ => owns_some c (rb b k) _) (BIBase.Entails.refl)

/-- What the body ends with is what the region gives back, and the arguments and the result. -/
theorem leave : iprop(Rest c ∗ Fin' m c ∗ keep m c)
    ⊢ (iprop((args m c ∗ ((c : Thread nD τ).loc main_v1 ↦{fullShare} outAll m c))
        ∗ Pipeline.ownSems0 osem c ∗ Pipeline.scopedRest spec0 c) : sProp 𝕄) := by
  rw [scopedRest0_eq, ownSems_eq, rest_eq]
  unfold Fin' args keep fin locals
  rw [bigSep_sep']
  iintro ⟨⟨⟨B0, Hpa⟩, ⟨B3, Hxs⟩, ⟨B1, Hrs⟩, ⟨B2, Hob, Hys⟩, Hyc⟩, ⟨A0, A1, G0, V0, V1, G1⟩, K0, K1⟩
  ihave B0 := (pa_close m c) $$ B0
  ihave B1 := (rs_close m c) $$ B1
  ihave B2 := (ob_close m c) $$ B2
  ihave B3 := (xs_close m c) $$ B3
  ihave G0 := (got_split m c false) $$ G0
  icases G0 with ⟨B4, S4⟩
  ihave G1 := (got_split m c true) $$ G1
  icases G1 with ⟨B5, S5⟩
  ihave B4 := (show (bigSep Finset.univ fun k => some' (F := F) c (rb false k)) ⊢ any (F := F) c cc0_scratch4 from xr_close m c) $$ B4
  ihave B5 := (show (bigSep Finset.univ fun k => some' (F := F) c (rb true k)) ⊢ any (F := F) c cc0_scratch5 from yr_close m c) $$ B5
  ihave A0 := (pa_rows m c).2 $$ [A0 K0]
  · isplitl [A0] <;> iassumption
  ihave A1 := (rs_rows m c).2 $$ [A1 K1]
  · isplitl [A1] <;> iassumption
  ihave V := (out_close m c) $$ [V0 V1]
  · isplitl [V0] <;> iassumption
  isplitl [A0 A1 V]
  · isplitl [A0 A1]
    · isplitl [A0] <;> iassumption
    iexact V
  isplitl [S4 S5 Hpa Hxs Hrs Hob Hys Hyc]
  · isplitl [S4]; · iexact S4
    isplitl [S5]; · iexact S5
    isplitl [Hpa]; · iexact Hpa
    isplitl [Hxs]; · iexact Hxs
    isplitl [Hrs]; · iexact Hrs
    isplitl [Hob]; · iexact Hob
    isplitl [Hys] <;> iassumption
  isplitl [B0]; · iexact B0
  isplitl [B1]; · iexact B1
  isplitl [B2]; · iexact B2
  isplitl [B3]; · iexact B3
  isplitl [B4] <;> iassumption

/-! ## The region's data -/

/-- What a device starts the body from, beside its buffers, -/
def start : sProp 𝕄 := iprop((∃ κ, ctx m κ) ∗ Ghost c)
/-- with them, -/
def Φ₀ : sProp 𝕄 := iprop(start m c ∗ Bufs m c ∗ keep m c)
/-- what it hands to the end of the run, -/
def Y : sProp 𝕄 := iprop(unscopedSems0 c ∗ args m c ∗ ((c : Thread nD τ).loc main_v1 ↦{fullShare} outAll m c))
/-- and all that it has after the body. -/
def Φ₁ : sProp 𝕄 := iprop(Y m c ∗ Pipeline.ownSems0 osem c ∗ Pipeline.scopedRest spec0 c)

/-- The memory at the start. -/
def s₀ : MemSt nD τ sig (Elt F) := ⟨m, fun _ => 0, ρ⟩

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => gm m c
  Φ t := match t with
    | ⟨0, _⟩ => Φ₀ m c
    | ⟨_ + 1, _⟩ => Φ₁ m c
  q _ := fullShare
  owed t := match t with
    | ⟨0, _⟩ => O₀ c
    | ⟨_ + 1, _⟩ => 0

theorem fetch_0 (t : Fin cfg0.N) : (cfg0.win (0 : Fin 1)).fetch t = true := by rw [fin_N0 t]; rfl

/-- The staging buffer of gamma, whole. -/
abbrev stg (X : (cc0_stg0_0 : Ref sig .tc).ty.Contents (Elt F)) : sProp 𝕄 :=
  owns (Ix := Unit) (Name := ℕ) (U := UU) (Lvl := ℕ) (c : Thread nD τ) (Memref.whole cc0_stg0_0) fullShare X

def bodyPre : sProp 𝕄 := iprop(Φ₀ m c ∗ (dats m ρ 0 c).owesAt () t0_0.castSucc
  ∗ (∃ d, stg c ((dats m ρ 0 c).before (0 : Fin 1) t0_0 d)))
def bodyPost : sProp 𝕄 := iprop(Φ₁ m c ∗ (dats m ρ 0 c).owesAt () t0_0.succ ∗ stg c (gm m c))

theorem before_gm (d : (cc0_stg0_0 : Ref sig .tc).ty.Contents (Elt F)) : (dats m ρ 0 c).before (0 : Fin 1) t0_0 d = gm m c := by
  unfold Dat.before; rw [if_pos (fetch_0 t0_0)]; rfl

/-- The body from the region's invariant to the region's invariant. -/
theorem l_region : (bodyPre m ρ c : sProp 𝕄) ⊢ run c (body gM) (fun _ => bodyPost m ρ c) := by
  unfold bodyPre Φ₀ start Dat.owesAt Pipeline.owesWithin
  iintro ⟨⟨⟨⟨%κ, #Hctx⟩, HG⟩, HB, HK⟩, ⟨%W, %hW, HO⟩, %d, Hg⟩
  iapply (l_body m κ c (fun _ => bodyPost m ρ c)) $$ [HG HB HO Hg]
  · isplitr; · iexact Hctx
    isplitl [HG]; · iexact HG
    isplitl [HB]; · iexact HB
    isplitl [Hg]; · iapply (Entails.of_eq (congrArg (stg c) (before_gm m ρ c d))) $$ Hg
    unfold owe
    iexists W
    iexact HO
  iintro ⟨HR, HF, Hz, Hg, HO⟩
  ihave HE := (leave m c) $$ [HR HF HK]
  · isplitl [HR]; · iexact HR
    isplitl [HF] <;> iassumption
  icases HE with ⟨⟨HA, HV⟩, HS⟩
  unfold bodyPost Φ₁ Y Dat.owesAt Pipeline.owesWithin owe
  isplitl [Hz HA HV HS]
  · isplitl [Hz HA HV]
    · isplitl [Hz]; · iapply (Entails.of_eq (unscoped_eq c).symm) $$ Hz
      isplitl [HA] <;> iassumption
    iexact HS
  isplitl [HO]
  · icases HO with ⟨%W', HO⟩
    iexists W'
    isplitr; · ipureintro; exact fun _ _ => Or.inl trivial
    iexact HO
  iexact Hg

/-- The region's program is the body. -/
theorem prog_eq : (defs₀ (F := F)) Proc.tc cfg0.body (cfg0.bodyArgs t0_0 (cfg0.slots t0_0)) = body gM :=
  (show _ = _ from rfl).trans (body_eq (F := F) (0 : Fin 1))

theorem body_obligation : BodyObligation (dats (F := F) m ρ 0 c) (defs₀ (F := F)) 𝒱₀ () Set.univ := fun t => by
  rw [fin_N0 t]
  rw [bigSep_W0, bigSep_W0]
  refine BIBase.Entails.trans (Q := bodyPre m ρ c) ?_ (BIBase.Entails.trans (l_region m ρ c) ?_)
  · exact BIBase.Entails.refl
  · rw [prog_eq]
    generalize body (F := F) gM = prog
    exact BIBase.Entails.refl

end Cert.KernelIdeal.Norm
-- ==== Proof.KernelIdeal.Start.lean ====
/- The start of the run: the protocol's cells and tokens made for every device, the cells' invariants allocated, the
   tokens dealt to the devices that pay with them, and the units that the devices owe each other counted. -/
module

public import proofs.«01_k».proof.Proof.KernelIdeal.Region

@[expose] public section

set_option maxRecDepth 10000

noncomputable section

namespace Cert.KernelIdeal.Norm

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)
variable (c : Dev nD)

/-- A semaphore of the protocol: the barrier, or an arrival of a direction and a chunk. -/
abbrev Sems : Type := Option (Bool × Fin 16)

/-! ## The cells and the tokens -/

theorem cell_inj {c c' : Dev nD} {i i' : Sems} (h : cell c i = cell c' i') : c = c' ∧ i = i' :=
  ⟨congrArg (fun g : GSem nD τ sig => g.1.1) h, csem_injective (congrArg Prod.snd h)⟩

theorem cell_injective : Function.Injective fun ci : Dev nD × Sems => cell ci.1 ci.2 := fun _ _ h =>
  Prod.ext (cell_inj h).1 (cell_inj h).2

def allCells : Finset (GSem nD τ sig) := Finset.univ.map ⟨fun ci : Dev nD × Sems => cell ci.1 ci.2, cell_injective⟩

/-- The duties of a device's cells: either neighbour's signal at the barrier, and every arrival. -/
abbrev Duty : Type := Bool ⊕ Bool × Fin 16

def tokOf (cj : Dev nD × Duty) : GSem nD τ sig × ℕ × Bool :=
  match cj.2 with
  | .inl d => (cell cj.1 none, 0, d)
  | .inr bk => (cell cj.1 (some bk), 0, false)

theorem tokOf_injective : Function.Injective tokOf := by
  rintro ⟨c, d | bk⟩ ⟨c', d' | bk'⟩ h
  · have h1 := cell_inj (congrArg Prod.fst h)
    have h2 : d = d' := congrArg (fun x : GSem nD τ sig × ℕ × Bool => x.2.2) h
    exact Prod.ext h1.1 (congrArg Sum.inl h2)
  · exact absurd (cell_inj (congrArg Prod.fst h)).2 (fun e => by cases e)
  · exact absurd (cell_inj (congrArg Prod.fst h)).2 (fun e => by cases e)
  · have h1 := cell_inj (congrArg Prod.fst h)
    exact Prod.ext h1.1 (congrArg Sum.inr (Option.some.inj h1.2))

def allToks : Finset (GSem nD τ sig × ℕ × Bool) := Finset.univ.map ⟨tokOf, tokOf_injective⟩

/-- The launch's ghost element. -/
def u₀ : UU :=
  (initOf (Pipeline.cells cfgs cellOf_inj) (Pipeline.launchToks cfgs cellOf_inj), (initOf allCells allToks, 1))

/-! ## Families over a device's semaphores -/

theorem over_bool (A : Bool → sProp 𝕄) : bigSep Finset.univ A = iprop(A false ∗ A true) := by
  rw [bigSep_univ_eq_bigSepL [false, true] (by decide) (by decide), bigSepL_cons_cons, bigSepL_singleton]
  rfl

theorem over_arrivals (A : Bool × Fin 16 → sProp 𝕄) :
    bigSep Finset.univ A = iprop((bigSep Finset.univ fun k => A (false, k)) ∗ bigSep Finset.univ fun k => A (true, k)) := by
  rw [bigSep_univ_prod, over_bool]

theorem over_sems (A : Sems → sProp 𝕄) :
    bigSep Finset.univ A = iprop(A none ∗ (bigSep Finset.univ fun k => A (some (false, k))) ∗ bigSep Finset.univ fun k => A (some (true, k))) := by
  rw [bigSep_univ_equiv (Equiv.optionEquivSumPUnit.{0} (Bool × Fin 16)).symm A, bigSep_univ_sum,
    over_arrivals (fun a => A ((Equiv.optionEquivSumPUnit.{0} (Bool × Fin 16)).symm (.inl a)))]
  rw [bigSep_univ_eq_bigSepL [PUnit.unit.{1}] (by decide) (by decide), bigSepL_singleton]
  exact BI.Entails.antisymm Idealize.SL.BI.sep_comm Idealize.SL.BI.sep_comm

/-- The tokens of a device's own cells. -/
def toks : sProp 𝕄 := iprop(
  (dutyTok ER (barCell c) 0 false ∗ dutyTok ER (barCell c) 0 true)
  ∗ (bigSep Finset.univ fun k : Fin 16 => dutyTok ER (recvCell false c k) 0 false)
  ∗ (bigSep Finset.univ fun k : Fin 16 => dutyTok ER (recvCell true c k) 0 false))

/-- The tokens that a device pays with. -/
def payToks : sProp 𝕄 := iprop(
  (dutyTok ER (barCell (nb false c)) 0 false ∗ dutyTok ER (barCell (nb true c)) 0 true)
  ∗ (bigSep Finset.univ fun k : Fin 16 => dutyTok ER (recvCell false (nb false c) k) 0 false)
  ∗ (bigSep Finset.univ fun k : Fin 16 => dutyTok ER (recvCell true (nb true c) k) 0 false))

/-- Every device's tokens go to the neighbour that pays with them. -/
theorem toks_around : (bigSep Finset.univ fun c : Dev nD => (toks c : sProp 𝕄)) ⊢ bigSep Finset.univ fun c : Dev nD => payToks c := by
  unfold toks payToks
  simp only [bigSep_sep']
  rw [bigSep_univ_equiv (nbEquiv false) (fun c : Dev nD => (dutyTok ER (barCell c) 0 false : sProp 𝕄)),
    bigSep_univ_equiv (nbEquiv true) (fun c : Dev nD => (dutyTok ER (barCell c) 0 true : sProp 𝕄)),
    bigSep_univ_equiv (nbEquiv false) (fun c : Dev nD => (bigSep Finset.univ fun k : Fin 16 => dutyTok ER (recvCell false c k) 0 false : sProp 𝕄)),
    bigSep_univ_equiv (nbEquiv true) (fun c : Dev nD => (bigSep Finset.univ fun k : Fin 16 => dutyTok ER (recvCell true c k) 0 false : sProp 𝕄))]
  exact BIBase.Entails.refl

/-! ## What a device gets -/

/-- What the launch's element holds for a device, -/
def G : sProp 𝕄 := iprop(
  (bigSep Finset.univ fun i : Sems => roundState ER (Rd m) (cell c i) 0)
  ∗ (bigSep Finset.univ fun i : Sems => atPos ER (cell c i) 0 ∅ 0)
  ∗ (bigSep Finset.univ fun i : Sems => reached ER (cell c i) 0) ∗ toks c)

/-- and what it makes of it. -/
def G' : sProp 𝕄 := iprop((∃ κ, records m κ) ∗ (bigSep Finset.univ fun i : Sems => atPos ER (cell c i) 0 ∅ 0) ∗ payToks c ∗ locals c)

theorem fund : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun i : Sems => Φ (cell c i) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    refine bigSep_congr fun c _ => ?_
    unfold toks
    rw [bigSep_univ_sum, over_bool, over_arrivals]
    rfl
  iintro HX
  imod (Rounds.fund ER (Rd m) allCells allToks) $$ HX with ⟨Hst, Hr, Hat, Htok⟩
  imodintro
  ihave Hst := (Entails.of_eq (hX fun g => roundState ER (Rd m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat]; · iexact Hat
  isplitl [Hr]; · iexact Hr
  iexact Htok

/-- A device's semaphores at zero: the protocol's, and those of its own copies. -/
theorem sems_split : iprop(Pipeline.ownSems0 (Ix := Unit) (Name := ℕ) (U := UU) (Lvl := ℕ) (Val := Elt F) (τ := τ) osem c ∗ unscopedSems0 c)
    ⊢ (iprop((bigSep Finset.univ fun i : Sems => semVal (cell c i) 0) ∗ locals c) : sProp 𝕄) := by
  rw [ownSems_eq, unscoped_eq, over_sems]
  unfold arrive
  iintro ⟨⟨H0, H1, HL⟩, HB⟩
  isplitr [HL]
  · isplitl [HB]; · iexact HB
    isplitl [H0]; · iexact H0
    iexact H1
  iexact HL

theorem core_alloc :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun i : Sems => iprop(∃ κ : ℕ, cellInv ER (Rd m) κ (cell c i)))
          ∗ (bigSep Finset.univ fun i : Sems => atPos ER (cell c i) 0 ∅ 0)
          ∗ (bigSep Finset.univ fun i : Sems => reached ER (cell c i) 0) ∗ toks c ∗ locals c) := by
  unfold G
  iintro ⟨Hos, Hus, Hst, Hat, Hr, Htok⟩
  ihave Hv := (sems_split (F := F) c) $$ [Hos Hus]
  · isplitl [Hos] <;> iassumption
  icases Hv with ⟨Hv, HL⟩
  imod (show iprop((bigSep Finset.univ fun i : Sems => semVal (cell c i) 0) ∗ bigSep Finset.univ fun i : Sems => roundState ER (Rd m) (cell c i) 0)
      ⊢ (|={Set.univ}=> bigSep Finset.univ fun i : Sems => iprop(∃ κ : ℕ, cellInv ER (Rd m) κ (cell c i)) : sProp 𝕄) from by
        rw [← bigSep_sep']
        exact (bigSep_mono fun i _ => (Rounds.body_intro ER (Rd m) (cell c i)).trans inv_alloc).trans (bigSep_fupd _ _)) $$ [Hv Hst] with Hinv
  · isplitl [Hv] <;> iassumption
  imodintro
  isplitl [Hinv]; · iexact Hinv
  isplitl [Hat]; · iexact Hat
  isplitl [Hr]; · iexact Hr
  isplitl [Htok] <;> iassumption

/-- What is lasting and the same for all goes to every device. -/
theorem with_lasting {I : Type} [DecidableEq I] {S : Finset I} {R : sProp 𝕄} [BI.Persistent R] (Φ : I → sProp 𝕄) :
    iprop(R ∗ bigSep S Φ) ⊢ bigSep S fun i => iprop(R ∗ Φ i) := by
  rw [bigSep_sep']
  exact BIClass.sep_mono (BI.bigSep_of_persistent S R) BIBase.Entails.refl

theorem regroup :
    (bigSep Finset.univ fun c : Dev nD => iprop((bigSep Finset.univ fun i : Sems => iprop(∃ κ : ℕ, cellInv ER (Rd m) κ (cell c i)))
          ∗ (bigSep Finset.univ fun i : Sems => atPos ER (cell c i) 0 ∅ 0)
          ∗ (bigSep Finset.univ fun i : Sems => reached ER (cell c i) 0) ∗ toks c ∗ locals c) : sProp 𝕄)
      ⊢ bigSep Finset.univ (G' m) := by
  rw [bigSep_sep', bigSep_sep', bigSep_sep', bigSep_sep',
    ← bigSep_univ_prod (fun ci : Dev nD × Sems => iprop(∃ κ : ℕ, cellInv ER (Rd m) κ (cell ci.1 ci.2))),
    ← bigSep_univ_prod (fun ci : Dev nD × Sems => (reached ER (cell ci.1 ci.2) 0 : sProp 𝕄))]
  iintro ⟨HI, Hat, #HR, Htok, HL⟩
  ihave HK := (BI.bigSep_exists_pi Finset.univ (fun (ci : Dev nD × Sems) (κ : ℕ) => (cellInv ER (Rd m) κ (cell ci.1 ci.2) : sProp 𝕄))) $$ HI
  icases HK with ⟨%κ, #HI⟩
  ihave Htk := (toks_around (F := F)) $$ Htok
  iapply (show iprop(iprop(∃ κ, records m κ) ∗ bigSep Finset.univ fun c : Dev nD => iprop((bigSep Finset.univ fun i : Sems => atPos ER (cell c i) 0 ∅ 0) ∗ payToks c ∗ locals c))
    ⊢ (bigSep Finset.univ (G' m) : sProp 𝕄) from with_lasting _)
  isplitr
  · iexists κ
    unfold records
    rw [bigSep_sep']
    isplitl; · iexact HI
    iexact HR
  · simp only [bigSep_sep']
    isplitl [Hat]; · iexact Hat
    isplitl [Htk] <;> iassumption

theorem glob : (bigSep Finset.univ fun c => iprop(Pipeline.ownSems0 (Ix := Unit) (Name := ℕ) (U := UU) (Lvl := ℕ) (Val := Elt F) (τ := τ) osem c
      ∗ unscopedSems0 c ∗ G m c) : sProp 𝕄) ⊢ |={Set.univ}=> bigSep Finset.univ (G' m) :=
  ((bigSep_mono fun c _ => core_alloc m c).trans (bigSep_fupd _ _)).trans (BI.fupd_mono (regroup m))

/-! ## The units owed at the start -/

/-- What device `d` owes in a direction to a cell of device `c`. -/
theorem toGo_at (b b' : Bool) (d : Dev nD) (k : Fin 16) :
    toGo b' d 0 (recvCell b c k) () = if b' = b ∧ d = nb b c then N else 0 := by
  have hc (j : Fin 16) : (tallyAt (recvCell b' (nb b' d) j) () N : CellTallies nD τ sig Unit) (recvCell b c k) ()
      = if k = j then (if b' = b ∧ d = nb b c then N else 0) else 0 := by
    rw [tallyAt_apply]
    by_cases h : k = j ∧ b' = b ∧ d = nb b c
    · obtain ⟨rfl, rfl, rfl⟩ := h
      rw [nb_nb, if_pos ⟨rfl, rfl⟩, if_pos rfl, if_pos ⟨rfl, rfl⟩]
    · rw [if_neg]
      · by_cases hk : k = j
        · rw [if_pos hk, if_neg fun h' => h ⟨hk, h'⟩]
        · rw [if_neg hk]
      · rintro ⟨hg, -⟩
        have h1 := cell_inj (i := some (b, k)) (i' := some (b', j)) hg
        have h2 := Option.some.inj h1.2
        have hb : b = b' := congrArg Prod.fst h2
        refine h ⟨congrArg Prod.snd h2, hb.symm, ?_⟩
        rw [h1.1, hb, nb_nb]
  unfold toGo
  rw [Finset.sum_apply, Finsupp.finset_sum_apply, Finset.sum_congr rfl fun j _ => hc j, Finset.sum_ite_eq, if_pos (by simp)]

theorem toGo_bar (b : Bool) (d : Dev nD) (n : ℕ) : toGo b d n (barCell c) () = 0 := by
  by_contra h
  obtain ⟨j, -, hg⟩ := toGo_pos (Nat.pos_of_ne_zero h)
  exact absurd (cell_inj (i := none) (i' := some (b, j)) hg).2 (fun e => by cases e)

theorem bar_at (b : Bool) (d : Dev nD) :
    (tallyAt (barCell (nb b d)) () 1 : CellTallies nD τ sig Unit) (barCell c) () = if d = nb b c then 1 else 0 := by
  rw [tallyAt_apply]
  by_cases h : d = nb b c
  · subst h; rw [nb_nb, if_pos ⟨rfl, rfl⟩, if_pos rfl]
  · rw [if_neg h, if_neg]
    rintro ⟨hg, -⟩
    exact h (by rw [(cell_inj (i := none) (i' := none) hg).1, nb_nb])

theorem bar_recv (b b' : Bool) (d : Dev nD) (k : Fin 16) :
    (tallyAt (barCell (nb b d)) () 1 : CellTallies nD τ sig Unit) (recvCell b' c k) () = 0 := by
  rw [tallyAt_apply, if_neg]
  rintro ⟨hg, -⟩
  exact absurd (cell_inj (i := some (b', k)) (i' := none) hg).2 (fun e => by cases e)

theorem launch_bar :
    tallyOn (barCell c) (launchCredit (Pipeline.owing O₀) 0 (barCell c)) = (tallyAt (barCell c) () 2 : CellTallies nD τ sig Unit) := by
  have hO (d : Dev nD) : O₀ d (barCell c) () = (if d = nb true c then 1 else 0) + (if d = nb false c then 1 else 0) := by
    unfold O₀ O₁ owed
    simp only [Pi.add_apply, Finsupp.add_apply]
    rw [toGo_bar, toGo_bar, bar_at, bar_at, Nat.zero_add]
  unfold tallyAt; refine congrArg _ (Finsupp.ext fun u => ?_); cases u
  rw [Pipeline.launchCredit_owing, Finsupp.single_eq_same, Finset.sum_congr rfl fun d _ => hO d, Finset.sum_add_distrib,
    Finset.sum_ite_eq' Finset.univ (nb true c) fun _ => 1, Finset.sum_ite_eq' Finset.univ (nb false c) fun _ => 1,
    if_pos (Finset.mem_univ _), if_pos (Finset.mem_univ _)]

theorem launch_recv (b : Bool) (k : Fin 16) :
    tallyOn (recvCell b c k) (launchCredit (Pipeline.owing O₀) 0 (recvCell b c k)) = (tallyAt (recvCell b c k) () N : CellTallies nD τ sig Unit) := by
  have hO (d : Dev nD) : O₀ d (recvCell b c k) () = if d = nb b c then N else 0 := by
    unfold O₀ O₁ owed
    simp only [Pi.add_apply, Finsupp.add_apply]
    rw [toGo_at, toGo_at, bar_recv, bar_recv, Nat.add_zero]
    cases b <;> simp
  unfold tallyAt; refine congrArg _ (Finsupp.ext fun u => ?_); cases u
  rw [Pipeline.launchCredit_owing, Finsupp.single_eq_same, Finset.sum_congr rfl fun d _ => hO d, Finset.sum_ite_eq' Finset.univ (nb b c) fun _ => N,
    if_pos (Finset.mem_univ _)]

/-- What a device is owed at the start, cell by cell. -/
theorem creds : (Pipeline.launchCred O₀ c : sProp 𝕄) ⊢ iprop(cred (tallyAt (barCell c) () 2)
    ∗ (bigSep Finset.univ fun k : Fin 16 => cred (tallyAt (recvCell false c k) () N))
    ∗ (bigSep Finset.univ fun k : Fin 16 => cred (tallyAt (recvCell true c k) () N))) := by
  unfold Pipeline.launchCred
  refine BIBase.Entails.trans (bigSep_subset (Finset.subset_univ (Finset.univ.map ⟨csem, csem_injective⟩))) (Entails.of_eq ?_)
  rw [bigSep_map, over_sems]
  congr 1
  · exact congrArg cred (launch_bar c)
  congr 1
  · exact bigSep_congr fun k _ => congrArg cred (launch_recv c false k)
  · exact bigSep_congr fun k _ => congrArg cred (launch_recv c true k)

/-! ## Into and out of the region -/

/-- The staging of gamma never waits in the way of what is owed. -/
theorem mayWait_stage (s : DmaSem sig) (hs : dec (.dma s) = none) (O : CellTallies nD τ sig Unit) (hO : O = O₀ c ∨ O = 0) :
    (levAts L lv : sProp 𝕄) ⊢ MayWait (c : Thread nD τ) (.dma s) () O := by
  rcases hO with rfl | rfl
  · have hpos : ∀ (g : GSem nD τ sig) (u : Unit), 0 < O₀ c g u → ∃ d i, g = cell d i := by
      intro g u hg
      unfold O₀ O₁ at hg
      simp only [Pi.add_apply, Finsupp.add_apply] at hg
      by_cases h : 0 < owed c 0 0 g u
      · obtain ⟨j, ⟨-, h⟩ | ⟨-, h⟩⟩ := owed_pos h
        · exact ⟨_, some (false, j), h⟩
        · exact ⟨_, some (true, j), h⟩
      · rw [Nat.eq_zero_of_not_pos h, tallyAt_apply, tallyAt_apply] at hg
        by_cases h1 : g = barCell (nb true c)
        · exact ⟨_, none, h1⟩
        · by_cases h2 : g = barCell (nb false c)
          · exact ⟨_, none, h2⟩
          · rw [if_neg (fun h => h1 h.1), if_neg (fun h => h2 h.1)] at hg
            exact absurd hg (Nat.lt_irrefl _)
    refine MayOwe.of_cut (L := L) (lev := lv) 0 (fun p hp => by rw [Finset.mem_singleton.mp hp, L_tc]; exact Finset.mem_singleton_self _)
      (fun g u hg => by obtain ⟨d, i, rfl⟩ := hpos g u hg; rw [show L (cell d i) = {()} from L_tc d _]; exact Finset.mem_singleton_self _)
      (fun p hp => by rw [Finset.mem_singleton.mp hp]; show levelOf (dec (.dma s)) ≤ 0; rw [hs]; exact Nat.le_refl _)
      (fun g u hg => by
        obtain ⟨d, i, rfl⟩ := hpos g u hg
        show 0 < levelOf (dec (csem i))
        rw [dec_csem]
        rcases i with _ | ⟨_ | _, k⟩ <;> exact Nat.succ_pos _)
  · rw [MayWait_zero]; iintro -; iempintro

/-- What a device brings to the region: the protocol's part, its copies' semaphores, and the buffers that bypass it. -/
def bring : sProp 𝕄 := iprop(start m c ∗ locals c ∗ args m c
  ∗ ((c : Thread nD τ).loc main_v1 ↦{fullShare} m ((c : Thread nD τ).loc main_v1)))

theorem start_intro :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> (iprop(bring m c ∗ emp) : sProp 𝕄) := by
  rw [Pipeline.unscopedRestP_none, unscopedRest0_eq]
  iintro ⟨⟨A0, A1, V⟩, #Hlev, Hcr, -, HG⟩
  ihave Hc := (creds (F := F) c) $$ Hcr
  icases Hc with ⟨CB, C0, C1⟩
  unfold G' payToks
  icases HG with ⟨⟨%κ, #HR⟩, Hat, ⟨TB, T0, T1⟩, HL⟩
  ihave Hat := (Entails.of_eq (over_sems (F := F) fun i => atPos ER (cell c i) 0 ∅ 0)) $$ Hat
  icases Hat with ⟨PB, P0, P1⟩
  imodintro
  unfold bring start Ghost args
  isplitl
  · isplitl [CB C0 C1 TB T0 T1 PB P0 P1]
    · isplitr
      · iexists κ
        unfold ctx
        isplitl; · iexact HR
        iexact Hlev
      isplitl [TB]; · iexact TB
      isplitl [PB CB]
      · isplitl [PB]; · iexact PB
        iexact CB
      isplitl [T0]; · iexact T0
      isplitl [T1]; · iexact T1
      unfold inb
      simp only [bigSep_sep']
      isplitl [P0 C0]
      · isplitl [P0]; · iexact P0
        iexact C0
      isplitl [P1]; · iexact P1
      iexact C1
    isplitl [HL]; · iexact HL
    isplitl [A0 A1]; · isplitl [A0] <;> iassumption
    iexact V
  · iempintro

theorem phi0_intro :
    iprop(bring m c ∗ Pipeline.prefHeld Pipeline.Prefetch.none c (fun _ => fullShare.right) (fun k => k.elim0) ∗ Pipeline.scopedRest cfg0.spec c)
      ⊢ ((dats m ρ 0 c).Φ 0 : sProp 𝕄) := by
  rw [show (dats m ρ 0 c).Φ 0 = Φ₀ m c from rfl]
  unfold bring Φ₀
  iintro ⟨⟨Hs, HL, HA, HV⟩, -, Hr⟩
  isplitl [Hs]; · iexact Hs
  iapply (enter m c)
  isplitl [HL]; · iexact HL
  isplitl [Hr]; · iexact Hr
  isplitl [HA] <;> iassumption

theorem phi1_exit :
    (dats m ρ 0 c).Φ (Fin.last cfg0.N) ⊢ (iprop(Y m c ∗ Pipeline.ownSems0 osem c ∗ Pipeline.scopedRest cfg0.spec c) : sProp 𝕄) := by
  rw [show (dats m ρ 0 c).Φ (Fin.last cfg0.N) = Φ₁ m c from rfl]
  exact BIBase.Entails.refl

theorem share_eq (w : Fin cfg0.W) : (dats m ρ 0 c).share w = fullShare := by
  unfold Dat.share; split <;> rfl

theorem waits : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

end Cert.KernelIdeal.Norm
-- ==== Proof.KernelIdeal.Run.lean ====
/- The whole run of the kernel's program: it ends, and what memory then holds. -/
module

public import proofs.«01_k».proof.Proof.KernelIdeal.Start
public import Idealize.ShloMosaic.Lib.Pipeline.CollectiveSegs

@[expose] public section

set_option maxRecDepth 10000

noncomputable section

namespace Cert.KernelIdeal.Norm

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-- What a final memory says of a device's buffers that the windows do not stage. -/
def EndsAt (c : Dev nD) (s : MemSt nD τ sig (Elt F)) : Prop :=
  (s.mem ((c : Thread nD τ).loc main_arg0) = m ((c : Thread nD τ).loc main_arg0)
    ∧ s.mem ((c : Thread nD τ).loc main_arg1) = m ((c : Thread nD τ).loc main_arg1)
    ∧ s.mem ((c : Thread nD τ).loc main_v1) = outAll m c)
  ∧ ∀ sm : SemLoc sig, sm.isScoped .tc = false → s.sem ((c.tc : Thread nD τ), sm) = 0

/-- The three buffers and the barrier's semaphore, read off the final state. -/
theorem read_end (c : Dev nD) (s' : Phys nD τ sig (Elt F)) :
    iprop(Y m c ∗ emp ∗ SI s') ⊢ |={Set.univ}=> (iprop(⌜EndsAt m c s'.mem⌝ ∗ SI s') : sProp 𝕄) := by
  unfold Y args
  iintro ⟨⟨Hu, ⟨A0, A1⟩, V⟩, -, HSI⟩
  imod (Pipeline.unscopedSems0_read (X := unscopedSems0 c) (c := c) fupd_intro s') $$ [Hu HSI] with ⟨%hs, HSI⟩
  · isplitl [Hu] <;> iassumption
  icombine HSI A0 gives %h0
  icombine HSI A1 gives %h1
  icombine HSI V gives %h2
  imodintro
  isplitr
  · ipureintro
    exact ⟨⟨Buf.eq_of_forall_mem_univ h0, Buf.eq_of_forall_mem_univ h1, Buf.eq_of_forall_mem_univ h2⟩, hs⟩
  iexact HSI

set_option maxRecDepth 100000 in
/-- On the mesh of sixteen devices, for any floats, from any memory with zero counters: every weakly fair execution
    terminates, the arguments are unchanged, every counter is zero, and each device's result holds the chunks that its
    pair of neighbours finished. -/
theorem run_main : θ_run defs (onTc (τ := τ) (main (F := F))) (s₀ m ρ) (fun r =>
    (∀ c : Dev nD, EndsAt m c r.2 ∧ r.2.mem ((c : Thread nD τ).loc main_arg2) = m ((c : Thread nD τ).loc main_arg2)) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      ihave HX := (own_pair_emb _ _ _) $$ HX
      icases HX with ⟨HX, -⟩
      imod (show (BI.own (((Emb.inl : Emb UB (UB × Counters)).trans embR) (initOf allCells allToks)) : sProp 𝕄) ⊢ _ from fund m) $$ HX with HG
      imodintro
      isplitl [HP] <;> iassumption)
    (hglob := glob m)
    (hA := fun _ _ => rfl) (hpf := fun _ k => k.elim0)
    (X := bring m) (Y := Y m) (Z := fun _ => iprop(emp))
    (hX := start_intro m ρ) (hin := phi0_intro m ρ) (hout := phi1_exit m ρ)
    (QY := fun c s => EndsAt m c s)
    (hY := read_end m)
    (hQ := fun _ h hs => ⟨fun c => ⟨(h c).2.2, ((h c).1 (0 : Fin 1)).trans ((dats (F := F) m ρ 0 c).arrAt_in (0 : Fin 1) rfl _)⟩,
      sem_eq_zero hs fun c => (h c).2.2.2⟩)

end Cert.KernelIdeal.Norm
-- ==== Proof.Value.Spec.lean ====
/- What the program computes, over the extended reals: a row of sums, divided by the root of its mean square, scaled by
   gamma. And the one law that the kernel's spelling needs: dividing by a root is multiplying by the reciprocal root. -/
module

public import Idealize.ShloMosaic.PureOps.Ideal
public import Idealize.ShloMosaic.PureOps.Ideal.Laws
public import Idealize.ShloMosaic.Lib.ValueIdx
public import Idealize.ShloMosaic.Lib.IdealHost

@[expose] public section

noncomputable section

namespace Cert.Value

open Idealize.ShloMosaic

/-- The number of a row's elements, as the programs write it, -/
def count : EReal := Ideal.ofBits .f32 0x45800000#32
/-- and the small number under the root. -/
def eps : EReal := Ideal.ofBits .f32 0x358637BD#32

theorem count_eq : count = ((4096 : ℝ) : EReal) := by
  unfold count
  simp [Ideal.ofBits, Ideal.ieee, -EReal.coe_mul]; norm_num

theorem eps_eq : ∃ e : ℝ, 0 < e ∧ eps = (e : EReal) := by
  unfold eps
  simp [Ideal.ofBits, Ideal.ieee, -EReal.coe_mul]

/-- A square is not negative. -/
theorem sq_nonneg (x : EReal) : 0 ≤ x * x :=
  EReal.mul_nonneg_iff.2 ((le_total 0 x).imp (fun h => ⟨h, h⟩) fun h => ⟨h, h⟩)

/-- What stands under the root, for a row. -/
def radicand (y : Fin 4096 → EReal) : EReal := Ideal.div (∑ k, y k * y k) count + eps

theorem radicand_pos (y : Fin 4096 → EReal) : 0 < radicand y := by
  have hs : 0 ≤ ∑ k, y k * y k := Finset.sum_nonneg fun k _ => sq_nonneg (y k)
  obtain ⟨e, he, heq⟩ := eps_eq
  unfold radicand
  rw [heq, count_eq, Ideal.div_coe (by norm_num : (4096 : ℝ) ≠ 0)]
  have h1 : (0 : EReal) ≤ (∑ k, y k * y k) * (((1 / 4096 : ℝ)) : EReal) := mul_nonneg hs (EReal.coe_nonneg.2 (by norm_num))
  calc (0 : EReal) < (e : EReal) := EReal.coe_pos.2 he
    _ = 0 + (e : EReal) := (zero_add _).symm
    _ ≤ _ := add_le_add_left h1 _

/-- Dividing by the root of a positive number is multiplying by its reciprocal root, at infinity too. -/
theorem div_sqrt (a : EReal) {z : EReal} (hz : 0 < z) : Ideal.div a (Ideal.sqrt z) = a * Ideal.rsqrt z := by
  induction z with
  | bot => exact absurd hz (not_lt.2 bot_le)
  | top =>
    rw [Ideal.sqrt_top, Ideal.rsqrt_top]
    unfold Ideal.div
    rw [if_neg (by simp), EReal.inv_top]
  | coe r =>
    have hr : 0 < r := EReal.coe_pos.1 hz
    rw [Ideal.sqrt_coe, Ideal.rsqrt_coe, if_neg hr.not_gt, if_neg hr.not_gt, if_neg hr.ne', Ideal.div_coe (Real.sqrt_pos.2 hr).ne', one_div]

/-- A row divided by its root mean square, scaled. -/
def normed (y : Fin 4096 → EReal) (g : EReal) (l : Fin 4096) : EReal := y l * Ideal.rsqrt (radicand y) * g

theorem normed_div (y : Fin 4096 → EReal) (g : EReal) (l : Fin 4096) :
    Ideal.div (y l) (Ideal.sqrt (radicand y)) * g = normed y g l := by
  rw [div_sqrt _ (radicand_pos y)]; rfl

/-- Row `r` of the whole sum: both partial sums and the residual. -/
def total (P : (⟨3, ![2, 4096, 4096]⟩ : Shape).Idx → EReal) (R : (⟨2, ![4096, 4096]⟩ : Shape).Idx → EReal) (r l : Fin 4096) : EReal :=
  P (ValueIdx.ix3 0 r l) + P (ValueIdx.ix3 1 r l) + R (ValueIdx.ix2 r l)

/-- The result: each row of the sum normed and scaled by gamma. -/
def result (P : (⟨3, ![2, 4096, 4096]⟩ : Shape).Idx → EReal) (R : (⟨2, ![4096, 4096]⟩ : Shape).Idx → EReal)
    (g : (⟨1, ![4096]⟩ : Shape).Idx → EReal) : (⟨2, ![4096, 4096]⟩ : Shape).Idx → EReal :=
  fun i => normed (total P R (i 0)) (g (ValueIdx.ix1 (i 1))) (i 1)

end Cert.Value
-- ==== Proof.Value.Reference.lean ====
/- The reference's run: its straight line of operations ends with the result that they compute, its arguments
   unchanged; and over the extended reals that result is the specification's. -/
module

public import proofs.«01_k».proof.Proof.Value.Spec
public import proofs.«01_k».proof.Proof.Gen.ReferenceIdeal
public import Idealize.ShloMosaic.Lib.StableHlo.Run
public import Idealize.ShloMosaic.Lib.Pointwise

@[expose] public section

set_option maxRecDepth 16384

noncomputable section

namespace Cert.Value.Reference

open Cert.ReferenceIdeal Cert.ReferenceIdeal.Gen
open Idealize.ShloMosaic Idealize.ShloMosaic.TcCoe Idealize.ShloMosaic.StableHlo Idealize.SL.Sem

variable {F : FTy → Type} [FloatOps F]

/-! ## The run -/

/-- The program's operations, in order. -/
abbrev ops : List (HloOp τ sig (Elt F)) :=
  [ nullary main_cst (constant S_ .f32 0x00000000#32),
    binary main_arg0 main_cst main_v0 (fun x v => Host.reduceAdd x v reducesTo_S2x4096x4096_S4096x4096_d0 h_S_),
    binary main_v0 main_arg1 main_v1 addf,
    binary main_v1 main_v1 main_v2 mulf,
    nullary main_cst_0 (constant S_ .f32 0x00000000#32),
    binary main_v2 main_cst_0 main_v3 (fun x v => Host.reduceAdd x v reducesTo_S4096x4096_S4096_d1 h_S_),
    unary main_v3 main_v4 (broadcastInDim S4096x1 ![0] bcast_S4096_S4096x1_0),
    nullary main_cst_1 (constant S_ .f32 0x45800000#32),
    unary main_cst_1 main_v5 (broadcastInDim S4096x1 ![] bcast_S_S4096x1),
    binary main_v4 main_v5 main_v6 Host.divf,
    nullary main_cst_2 (constant S_ .f32 0x358637BD#32),
    unary main_cst_2 main_v7 (broadcastInDim S4096x1 ![] bcast_S_S4096x1),
    binary main_v6 main_v7 main_v8 addf,
    unary main_v8 main_v9 Host.sqrt,
    unary main_v9 main_v10 (broadcastInDim S4096x4096 ![0, 1] bcast_S4096x1_S4096x4096_0_1),
    binary main_v1 main_v10 main_v11 Host.divf,
    unary main_arg2 main_v12 (broadcastInDim S1x4096 ![1] bcast_S4096_S1x4096_1),
    unary main_v12 main_v13 (broadcastInDim S4096x4096 ![0, 1] bcast_S1x4096_S4096x4096_0_1),
    binary main_v11 main_v13 main_v14 mulf,
    unary main_v14 main_v15 (truncf .bf16 · bitsLt_bf16_f32) ]

/-- The sum over the devices' parts, with the residual. -/
def sumOut (x : FVec F S2x4096x4096 .f32) (r : FVec F S4096x4096 .f32) : FVec F S4096x4096 .f32 :=
  addf (Host.reduceAdd x (constant S_ .f32 0x00000000#32) reducesTo_S2x4096x4096_S4096x4096_d0 h_S_) r

/-- The root of a row's mean square, as a column. -/
def rootOut (y : FVec F S4096x4096 .f32) : FVec F S4096x1 .f32 :=
  Host.sqrt (addf
    (Host.divf
      (broadcastInDim S4096x1 ![0] bcast_S4096_S4096x1_0
        (Host.reduceAdd (mulf y y) (constant S_ .f32 0x00000000#32) reducesTo_S4096x4096_S4096_d1 h_S_))
      (broadcastInDim S4096x1 ![] bcast_S_S4096x1 (constant S_ .f32 0x45800000#32)))
    (broadcastInDim S4096x1 ![] bcast_S_S4096x1 (constant S_ .f32 0x358637BD#32)))

/-- The reference's result from its arguments. -/
def out (x : FVec F S2x4096x4096 .f32) (r : FVec F S4096x4096 .f32) (g : FVec F S4096 .f32) : FVec F S4096x4096 .bf16 :=
  truncf .bf16
    (mulf (Host.divf (sumOut x r) (broadcastInDim S4096x4096 ![0, 1] bcast_S4096x1_S4096x4096_0_1 (rootOut (sumOut x r))))
      (broadcastInDim S4096x4096 ![0, 1] bcast_S1x4096_S4096x4096_0_1 (broadcastInDim S1x4096 ![1] bcast_S4096_S1x4096_1 g)))
    bitsLt_bf16_f32

theorem main_eq (c : Dev nD) : main (F := F) c = seq ops := rfl

theorem out_eq (V : Valuation τ sig (Elt F)) : after ops V (main_v15 : DevRef τ sig)
    = out (V (main_arg0 : DevRef τ sig)) (V (main_arg1 : DevRef τ sig)) (V (main_arg2 : DevRef τ sig)) := by
  after_results
  rfl

theorem arg0_eq (V : Valuation τ sig (Elt F)) : after ops V (main_arg0 : DevRef τ sig) = V (main_arg0 : DevRef τ sig) := by
  after_results
theorem arg1_eq (V : Valuation τ sig (Elt F)) : after ops V (main_arg1 : DevRef τ sig) = V (main_arg1 : DevRef τ sig) := by
  after_results
theorem arg2_eq (V : Valuation τ sig (Elt F)) : after ops V (main_arg2 : DevRef τ sig) = V (main_arg2 : DevRef τ sig) := by
  after_results

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., binary_bufs_sub .., binary_bufs_sub .., binary_bufs_sub .., nullary_bufs_sub .., binary_bufs_sub .., unary_bufs_sub ..,
    nullary_bufs_sub .., unary_bufs_sub .., binary_bufs_sub .., nullary_bufs_sub .., unary_bufs_sub .., binary_bufs_sub .., unary_bufs_sub ..,
    unary_bufs_sub .., binary_bufs_sub .., unary_bufs_sub .., unary_bufs_sub .., binary_bufs_sub .., unary_bufs_sub ..⟩

/-- From any memory with zero counters, for any floats: every weakly fair execution of the reference terminates with
    its result computed and its arguments unchanged. -/
theorem run_main (m : (ℓ : Loc nD τ sig) → Buf (Elt F) ℓ) (ρ : Dev nD → PrngReg) :
    θ_run defs (onTc (τ := τ) (main (F := F))) ⟨m, fun _ => 0, ρ⟩ fun r =>
      ∀ c : Dev nD, r.2.mem ((c.tc : Thread nD τ).loc main_v15)
          = out (m ((c.tc : Thread nD τ).loc main_arg0)) (m ((c.tc : Thread nD τ).loc main_arg1)) (m ((c.tc : Thread nD τ).loc main_arg2))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2) :=
  (θ_run defs _ _).mono (fun _ h c => ⟨(h c main_v15).trans (out_eq _), (h c main_arg0).trans (arg0_eq _),
      (h c main_arg1).trans (arg1_eq _), (h c main_arg2).trans (arg2_eq _)⟩)
    (run_seq scopedRefs_eq scopedSems_eq defs main (fun _ => ops) main_eq (fun _ => ops_sub) m ρ)

/-! ## Its value -/

theorem sumOut_apply (x : FVec Ideal S2x4096x4096 .f32) (r : FVec Ideal S4096x4096 .f32) (a l : Fin 4096) :
    sumOut x r (ValueIdx.ix2 a l) = total x r a l := by
  pointwise [sumOut, total]
  rw [Fin.sum_univ_two]
  rfl

theorem rootOut_apply (y : FVec Ideal S4096x4096 .f32) (a : Fin 4096) :
    rootOut y (ValueIdx.ix2 a 0) = Ideal.sqrt (radicand fun k => y (ValueIdx.ix2 a k)) := by
  pointwise [rootOut, radicand]
  rfl

theorem out_apply (x : FVec Ideal S2x4096x4096 .f32) (r : FVec Ideal S4096x4096 .f32) (g : FVec Ideal S4096 .f32) (a l : Fin 4096) :
    out x r g (ValueIdx.ix2 a l) = Ideal.div (sumOut x r (ValueIdx.ix2 a l)) (rootOut (sumOut x r) (ValueIdx.ix2 a 0)) * g (ValueIdx.ix1 l) := by
  pointwise [out]
  rfl

/-- Over the extended reals the reference computes the specification. -/
theorem out_result (x : FVec Ideal S2x4096x4096 .f32) (r : FVec Ideal S4096x4096 .f32) (g : FVec Ideal S4096 .f32) :
    out x r g = result x r g := by
  funext i
  obtain ⟨a, l, rfl⟩ : ∃ a l : Fin 4096, i = ValueIdx.ix2 a l := ⟨i 0, i 1, ValueIdx.eq_ix2 i⟩
  rw [out_apply, rootOut_apply, sumOut_apply]
  simp only [sumOut_apply]
  exact normed_div _ _ _

end Cert.Value.Reference
-- ==== Proof.Value.Kernel.lean ====
/- The kernel's result over the extended reals: the payloads of a chunk at an index, the rows that a chunk reads, and
   that every device's result is the specification's of the whole arrays. -/
module

public import proofs.«01_k».proof.Proof.Value.Spec
public import proofs.«01_k».proof.Proof.KernelIdeal.Pieces
public import Idealize.ShloMosaic.Lib.Pointwise
public import Idealize.ShloMosaic.Lib.Layout
public import Idealize.ShloMosaic.Lib.ValueLayout

@[expose] public section

set_option maxRecDepth 16384

noncomputable section

namespace Cert.Value.Kernel

open Cert.KernelIdeal Cert.KernelIdeal.Gen Cert.KernelIdeal.Norm
open Idealize.ShloMosaic Idealize.ShloMosaic.TcCoe

/-! ## The payloads at an index -/

/-- A chunk laid in a slot, read at the slot's row. -/
theorem up_apply {e : EltTy} (X : S128x4096.Idx → Elt Ideal e) (a : Fin 128) (l : Fin 4096) :
    up X (ValueIdx.ix3 0 a l) = X (ValueIdx.ix2 a l) := by
  pointwise [up]
  rfl

/-- A chunk sent is the chunk. -/
theorem castPay_apply (v : S1x128x4096.Idx → Elt Ideal .f32) (a : Fin 128) (l : Fin 4096) :
    (dn (F := Ideal) (e := .bf16) (castPay (F := Ideal) v) (ValueIdx.ix2 a l) : EReal) = v (ValueIdx.ix3 0 a l) := by
  pointwise [castPay, dn]
  rfl

/-- The sum of the own chunk, the neighbour's and the residual's. -/
theorem sumPay_apply (p : S1x128x4096.Idx → Elt Ideal .f32) (x : S1x128x4096.Idx → Elt Ideal .bf16) (r : S1x128x4096.Idx → Elt Ideal .f32)
    (a : Fin 128) (l : Fin 4096) :
    (sumPay (F := Ideal) p x r (ValueIdx.ix2 a l) : EReal) = p (ValueIdx.ix3 0 a l) + x (ValueIdx.ix3 0 a l) + r (ValueIdx.ix3 0 a l) := by
  pointwise [sumPay]
  rfl

/-- A normed chunk: each row is normed by itself and scaled by gamma. -/
theorem normPay_apply (g : S4096.Idx → Elt Ideal .f32) (y : S128x4096.Idx → Elt Ideal .f32) (a : Fin 128) (l : Fin 4096) :
    (dn (F := Ideal) (e := .bf16) (normPay (F := Ideal) (gammaRow (F := Ideal) g) y) (ValueIdx.ix2 a l) : EReal)
      = normed (fun k => y (ValueIdx.ix2 a k)) (g (ValueIdx.ix1 l)) l := by
  pointwise [normPay, gammaRow, dn, normed, radicand]
  rfl

/-! ## The rows of a chunk -/

variable (m : (ℓ : Loc nD τ sig) → Buf (Elt Ideal) ℓ) (c : Dev nD)

/-- The row of the whole array that is row `a` of chunk `k` of the half that device `c` finishes. -/
def row (k : Fin 16) (a : Fin 128) : Fin 4096 := ⟨2048 * ((c.val / 4) % 2) + 128 * k.val + a.val, by omega⟩

/-- Chunk `k` of device `c`'s part of the partial sums. -/
theorem pc_apply (k : Fin 16) (a : Fin 128) (l : Fin 4096) :
    pc m c k (ValueIdx.ix2 a l) = m ((c : Thread nD τ).loc main_arg0) (ValueIdx.ix3 0 (row c k a) l) := by
  show m ((c : Thread nD τ).loc main_arg0) ((Rect.unit (s := S1x4096x4096) (k0_off1 c (BitVec.ofNat 32 (128 * k.val)))
    S1x128x4096.size (k0_off1_inb c k)).emb (Shape.reshapeEquiv _ (ValueIdx.ix2 a l))) = _
  rw [ValueIdx.reshapeEquiv_ix2_1ab]
  congr 1
  funext b
  apply Fin.ext
  rw [Rect.emb_apply]
  refine (congrArg₂ (· + ·) (congrFun (k0_off1_eq c k) b) (Nat.one_mul _)).trans ?_
  match b with
  | ⟨0, _⟩ => rfl
  | ⟨1, _⟩ => rfl
  | ⟨2, _⟩ => exact Nat.zero_add _

/-- Chunk `k` of the residual. -/
theorem rc_apply (k : Fin 16) (a : Fin 128) (l : Fin 4096) :
    rc m c k (ValueIdx.ix2 a l) = m ((c : Thread nD τ).loc main_arg1) (ValueIdx.ix2 (row c k a) l) := by
  show m ((c : Thread nD τ).loc main_arg1) ((rectOwn c k).emb (ValueIdx.ix2 a l)) = _
  congr 1
  funext b
  apply Fin.ext
  rw [Rect.emb_apply]
  refine (congrArg₂ (· + ·) (congrFun (k0_off2_eq c k) b) (Nat.one_mul _)).trans ?_
  match b with
  | ⟨0, _⟩ => rfl
  | ⟨1, _⟩ => exact Nat.zero_add _

/-- The staged gamma is the whole array. -/
theorem gm_eq : gm m c = m ((c : Thread nD τ).loc main_arg2) :=
  Memref.read_access_unit_zero (Elt Ideal) main_arg2 (off := fun b => 0 * main_arg2.ty.shape.size b)
    (funext fun _ => Nat.zero_mul _) (fun b => by rw [Nat.zero_mul, Nat.zero_add]) (m ((c : Thread nD τ).loc main_arg2))

/-! ## A finished chunk -/

/-- Device `d`'s part of the partial sums, and its residual. -/
def part (d : Dev nD) : S1x4096x4096.Idx → EReal := m ((d : Thread nD τ).loc main_arg0)
def resid (d : Dev nD) : S4096x4096.Idx → EReal := m ((d : Thread nD τ).loc main_arg1)

/-- Row `a` of chunk `k` before it is normed: both neighbours' parts and the residual. -/
def sums (k : Fin 16) (a : Fin 128) (l : Fin 4096) : EReal :=
  part m c (ValueIdx.ix3 0 (row c k a) l) + part m (nb false c) (ValueIdx.ix3 0 (row (nb false c) k a) l)
    + resid m c (ValueIdx.ix2 (row c k a) l)

/-- A finished chunk: the sums' rows, normed. -/
theorem oval_apply (k : Fin 16) (a : Fin 128) (l : Fin 4096) :
    (oval m c k (ValueIdx.ix2 a l) : EReal) = normed (sums m c k a) (m ((c : Thread nD τ).loc main_arg2) (ValueIdx.ix1 l)) l := by
  unfold oval
  rw [normPay_apply, gm_eq]
  congr 1
  funext l
  rw [sumPay_apply, up_apply, up_apply, up_apply, pc_apply, rc_apply]
  unfold xval
  rw [castPay_apply, up_apply, pc_apply]
  rfl

/-! ## The whole result -/

/-- The x-neighbour reads the same rows of the other half. -/
theorem row_x (k : Fin 16) (a : Fin 128) : row (nb false c) k a = row c k a :=
  Fin.ext (by
    show 2048 * (((xDev c).val / 4) % 2) + 128 * k.val + a.val = 2048 * ((c.val / 4) % 2) + 128 * k.val + a.val
    have : c.val < 16 := c.isLt
    rw [xDev_val]; omega)

/-- The x-neighbour holds the other part of the partial sums. -/
theorem x_half : (nb false c).val / 8 = 1 - c.val / 8 := by
  show (xDev c).val / 8 = _
  have : c.val < 16 := c.isLt
  rw [xDev_val]; omega

/-- The y-neighbour finishes the other half of the rows. -/
theorem y_half : ((nb true c).val / 4) % 2 = 1 - (c.val / 4) % 2 := by
  show ((yDev c).val / 4) % 2 = _
  have : c.val < 16 := c.isLt
  rw [yDev_val]; omega

variable (P : (⟨3, ![2, 4096, 4096]⟩ : Shape).Idx → EReal) (R : (⟨2, ![4096, 4096]⟩ : Shape).Idx → EReal)
  (g : (⟨1, ![4096]⟩ : Shape).Idx → EReal)

/-- Every device holds its part of the whole arrays. -/
def Placed : Prop := ∀ c : Dev nD,
  m ((c : Thread nD τ).loc main_arg0) = Layout.blockN ⟨3, ![1, 4096, 4096]⟩ ⟨3, ![2, 4096, 4096]⟩ (Layout.meshBlock [2, 2, 4] ![[0], [], []] c) P
  ∧ m ((c : Thread nD τ).loc main_arg1) = R ∧ m ((c : Thread nD τ).loc main_arg2) = g

/-- The part that a device holds is the one that its coordinate along x names. -/
theorem part_apply (r l : Fin 4096) :
    (Layout.blockN ⟨3, ![1, 4096, 4096]⟩ ⟨3, ![2, 4096, 4096]⟩ (Layout.meshBlock [2, 2, 4] ![[0], [], []] c) P) (ValueIdx.ix3 0 r l)
      = P (ValueIdx.ix3 ⟨c.val / 8, by have : c.val < 16 := c.isLt; omega⟩ r l) := by
  have hc : c.val < 16 := c.isLt
  rw [Layout.blockN_apply]
  congr 1
  funext b
  apply Fin.ext
  match b with
  | ⟨0, _⟩ => show (c.val / 8 % 2 * 1 + 0) * 1 + 0 = c.val / 8; omega
  | ⟨1, _⟩ => show 0 * 4096 + r.val = r.val; omega
  | ⟨2, _⟩ => show 0 * 4096 + l.val = l.val; omega

variable {m P R g}

/-- Both neighbours' parts, in whichever order, are the two parts of the whole array. -/
theorem sums_total (h : Placed m P R g) (k : Fin 16) (a : Fin 128) (l : Fin 4096) : sums m c k a l = total P R (row c k a) l := by
  have hc : c.val < 16 := c.isLt
  unfold sums total part resid
  rw [(h c).1, (h (nb false c)).1, (h c).2.1, row_x, part_apply, part_apply]
  by_cases h0 : c.val / 8 = 0
  · have e0 : (⟨c.val / 8, by omega⟩ : Fin 2) = 0 := Fin.ext h0
    have e1 : (⟨(nb false c).val / 8, by rw [x_half]; omega⟩ : Fin 2) = 1 := Fin.ext ((x_half c).trans (by rw [h0]; rfl))
    rw [e0, e1]
  · have h1 : c.val / 8 = 1 := by omega
    have e0 : (⟨c.val / 8, by omega⟩ : Fin 2) = 1 := Fin.ext h1
    have e1 : (⟨(nb false c).val / 8, by rw [x_half]; omega⟩ : Fin 2) = 0 := Fin.ext ((x_half c).trans (by rw [h1]; rfl))
    rw [e0, e1, add_comm (P (ValueIdx.ix3 1 _ l))]

/-- A finished chunk is the whole result's rows. -/
theorem oval_result (h : Placed m P R g) (k : Fin 16) (a : Fin 128) (l : Fin 4096) :
    (oval m c k (ValueIdx.ix2 a l) : EReal) = result P R g (ValueIdx.ix2 (row c k a) l) := by
  rw [oval_apply, (h c).2.2, show sums m c k a = total P R (row c k a) from funext fun l => sums_total c h k a l]
  rfl

/-- Every device ends with the whole result. -/
theorem outAll_result (h : Placed m P R g) : outAll m c = result P R g := by
  funext i
  obtain ⟨r, l, rfl⟩ : ∃ r l : Fin 4096, i = ValueIdx.ix2 r l := ⟨i 0, i 1, ValueIdx.eq_ix2 i⟩
  have hr : r.val < 4096 := r.isLt
  have key (d : Dev nD) (hd : r.val / 2048 = (d.val / 4) % 2) :
      (oval m d ⟨r.val / 128 % 16, Nat.mod_lt _ (by decide)⟩ (ValueIdx.ix2 ⟨r.val % 128, Nat.mod_lt _ (by decide)⟩ l) : EReal)
        = result P R g (ValueIdx.ix2 r l) := by
    rw [oval_result d h]
    have e : row d ⟨r.val / 128 % 16, Nat.mod_lt _ (by decide)⟩ ⟨r.val % 128, Nat.mod_lt _ (by decide)⟩ = r :=
      Fin.ext (by show 2048 * ((d.val / 4) % 2) + 128 * (r.val / 128 % 16) + r.val % 128 = r.val; omega)
    rw [e]
  unfold outAll
  by_cases hh : r.val / 2048 = (c.val / 4) % 2
  · rw [if_pos hh]
    exact key c hh
  · rw [if_neg hh]
    exact key (nb true c) (by rw [y_half]; omega)

end Cert.Value.Kernel
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Kernel.Run
public import proofs.«01_k».proof.Proof.KernelIdeal.Run
public import proofs.«01_k».proof.Proof.Value.Reference
public import proofs.«01_k».proof.Proof.Value.Kernel

@[expose] public section

noncomputable section

namespace Cert.Proof

open Idealize.ShloMosaic Idealize.SL.Sem

/-- The program, at bits: it runs, its arguments are unchanged, every counter ends at zero. -/
theorem frame_kernel : Cert.quiescent_Kernel (hKernel := Cert.Kernel.Gen.facts) := fun m g _ =>
  (θ_run Cert.Kernel.defs _ _).mono (fun _ h => ⟨fun c => ⟨(h.1 c).1.1.1, (h.1 c).1.1.2.1, (h.1 c).2⟩, h.2⟩)
    (Cert.Kernel.Norm.run_main (F := Bits) m g)

/-- The program, at the extended reals. -/
theorem frame_ideal : Cert.quiescent_KernelIdeal (hKernelIdeal := Cert.KernelIdeal.Gen.facts) := fun m g _ =>
  (θ_run Cert.KernelIdeal.defs _ _).mono (fun _ h => ⟨fun c => ⟨(h.1 c).1.1.1, (h.1 c).1.1.2.1, (h.1 c).2⟩, h.2⟩)
    (Cert.KernelIdeal.Norm.run_main (F := Ideal) m g)

/-- The reference, at the extended reals; it declares no semaphore. -/
theorem frame_reference : Cert.quiescent_ReferenceIdeal (hReferenceIdeal := Cert.ReferenceIdeal.Gen.facts) := fun m g _ =>
  (θ_run Cert.ReferenceIdeal.defs _ _).mono (fun r h => ⟨fun c => (h c).2, sem_eq_zero_of_no_sems (by decide) r.2⟩)
    (Cert.Value.Reference.run_main (F := Ideal) m g)

/-- Where every device starts with its part of the reference's arrays, every device ends with the reference's result. -/
theorem value : Cert.algebraic_KernelIdeal_ReferenceIdeal (hKernelIdeal := Cert.KernelIdeal.Gen.facts)
    (hReferenceIdeal := Cert.ReferenceIdeal.Gen.facts) := fun m g m' g' _ agree =>
  ⟨Cert.Value.result _ _ _,
    (θ_run Cert.KernelIdeal.defs _ _).mono
      (fun _ h c => ⟨(h.1 c).1.1.2.2.trans (Cert.Value.Kernel.outAll_result c agree), (h.1 c).1.1.1, (h.1 c).1.1.2.1, (h.1 c).2⟩)
      (Cert.KernelIdeal.Norm.run_main (F := Ideal) m g),
    (θ_run Cert.ReferenceIdeal.defs _ _).mono
      (fun _ h => ⟨(h 0).1.trans (Cert.Value.Reference.out_result _ _ _), (h 0).2⟩)
      (Cert.Value.Reference.run_main (F := Ideal) m' g')⟩

theorem claim : Cert.Claim := ⟨Cert.Kernel.Gen.facts, Cert.KernelIdeal.Gen.facts, Cert.ReferenceIdeal.Gen.facts,
  frame_kernel, frame_ideal, frame_reference, trivial, value⟩

end Cert.Proof

end
